-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x16384 : Shape := ⟨3, ![2, 128, 16384]⟩
abbrev S8192x5120 : Shape := ⟨2, ![8192, 5120]⟩
abbrev S128x5120 : Shape := ⟨2, ![128, 5120]⟩
abbrev S16384x2 : Shape := ⟨2, ![16384, 2]⟩
abbrev S5120x2 : Shape := ⟨2, ![5120, 2]⟩
abbrev S16384x4 : Shape := ⟨2, ![16384, 4]⟩
abbrev S5120x4 : Shape := ⟨2, ![5120, 4]⟩
abbrev S16384x30 : Shape := ⟨2, ![16384, 30]⟩
abbrev S5120x30 : Shape := ⟨2, ![5120, 30]⟩
abbrev S512 : Shape := ⟨1, ![512]⟩
abbrev S510 : Shape := ⟨1, ![510]⟩
abbrev S256x16384 : Shape := ⟨2, ![256, 16384]⟩
abbrev S2x16384 : Shape := ⟨2, ![2, 16384]⟩
abbrev S4x16384 : Shape := ⟨2, ![4, 16384]⟩
abbrev S30x16384 : Shape := ⟨2, ![30, 16384]⟩
abbrev S2x5120 : Shape := ⟨2, ![2, 5120]⟩
abbrev S4x5120 : Shape := ⟨2, ![4, 5120]⟩
abbrev S30x5120 : Shape := ⟨2, ![30, 5120]⟩
abbrev S1x512 : Shape := ⟨2, ![1, 512]⟩
abbrev S1x510 : Shape := ⟨2, ![1, 510]⟩
abbrev S256x5120 : Shape := ⟨2, ![256, 5120]⟩
abbrev S8192x512 : Shape := ⟨2, ![8192, 512]⟩
abbrev S128x512 : Shape := ⟨2, ![128, 512]⟩
abbrev S2x512 : Shape := ⟨2, ![2, 512]⟩
abbrev S4x512 : Shape := ⟨2, ![4, 512]⟩
abbrev S30x512 : Shape := ⟨2, ![30, 512]⟩
abbrev S256x512 : Shape := ⟨2, ![256, 512]⟩
abbrev S512x128 : Shape := ⟨2, ![512, 128]⟩
abbrev S512x510 : Shape := ⟨2, ![512, 510]⟩
abbrev S512x1 : Shape := ⟨2, ![512, 1]⟩
abbrev S512x512 : Shape := ⟨2, ![512, 512]⟩
abbrev S30x256 : Shape := ⟨2, ![30, 256]⟩
abbrev S4x256 : Shape := ⟨2, ![4, 256]⟩
abbrev S2x256 : Shape := ⟨2, ![2, 256]⟩
abbrev S512x256 : Shape := ⟨2, ![512, 256]⟩
abbrev S1x256 : Shape := ⟨2, ![1, 256]⟩
abbrev S6x256 : Shape := ⟨2, ![6, 256]⟩
abbrev S8x256 : Shape := ⟨2, ![8, 256]⟩
abbrev S16x256 : Shape := ⟨2, ![16, 256]⟩
abbrev S256x256 : Shape := ⟨2, ![256, 256]⟩
abbrev S6x512 : Shape := ⟨2, ![6, 512]⟩
abbrev S8x512 : Shape := ⟨2, ![8, 512]⟩
abbrev S16x512 : Shape := ⟨2, ![16, 512]⟩
abbrev S1024x512 : Shape := ⟨2, ![1024, 512]⟩
abbrev S256x1024 : Shape := ⟨2, ![256, 1024]⟩

abbrev nBuf : Space → Nat
  | .hbm => 27
  | .vmem => 23
  | .smem => 0
  | _ => 0

abbrev bufTy : (tb : Table) → Fin (tcTables nBuf tb) → BufTy
  | .hbm, ⟨0, _⟩ => ⟨S2x128x16384, .bf16⟩
  | .hbm, ⟨1, _⟩ => ⟨S8192x5120, .i8⟩
  | .hbm, ⟨2, _⟩ => ⟨S128x5120, .bf16⟩
  | .hbm, ⟨3, _⟩ => ⟨S16384x2, .i8⟩
  | .hbm, ⟨4, _⟩ => ⟨S5120x2, .i8⟩
  | .hbm, ⟨5, _⟩ => ⟨S16384x4, .i32⟩
  | .hbm, ⟨6, _⟩ => ⟨S5120x4, .i32⟩
  | .hbm, ⟨7, _⟩ => ⟨S16384x30, .i32⟩
  | .hbm, ⟨8, _⟩ => ⟨S5120x30, .i32⟩
  | .hbm, ⟨9, _⟩ => ⟨S512, .bf16⟩
  | .hbm, ⟨10, _⟩ => ⟨S512, .bf16⟩
  | .hbm, ⟨11, _⟩ => ⟨S510, .bf16⟩
  | .hbm, ⟨12, _⟩ => ⟨S510, .bf16⟩
  | .hbm, ⟨13, _⟩ => ⟨S512, .f32⟩
  | .hbm, ⟨14, _⟩ => ⟨S256x16384, .bf16⟩
  | .hbm, ⟨15, _⟩ => ⟨S2x16384, .i8⟩
  | .hbm, ⟨16, _⟩ => ⟨S4x16384, .i32⟩
  | .hbm, ⟨17, _⟩ => ⟨S30x16384, .i32⟩
  | .hbm, ⟨18, _⟩ => ⟨S2x5120, .i8⟩
  | .hbm, ⟨19, _⟩ => ⟨S4x5120, .i32⟩
  | .hbm, ⟨20, _⟩ => ⟨S30x5120, .i32⟩
  | .hbm, ⟨21, _⟩ => ⟨S1x512, .bf16⟩
  | .hbm, ⟨22, _⟩ => ⟨S1x512, .bf16⟩
  | .hbm, ⟨23, _⟩ => ⟨S1x510, .bf16⟩
  | .hbm, ⟨24, _⟩ => ⟨S1x510, .bf16⟩
  | .hbm, ⟨25, _⟩ => ⟨S1x512, .f32⟩
  | .hbm, ⟨26, _⟩ => ⟨S256x5120, .bf16⟩
  | .local _ .vmem, ⟨0, _⟩ => ⟨S256x16384, .bf16⟩
  | .local _ .vmem, ⟨1, _⟩ => ⟨S8192x512, .i8⟩
  | .local _ .vmem, ⟨2, _⟩ => ⟨S8192x512, .i8⟩
  | .local _ .vmem, ⟨3, _⟩ => ⟨S128x512, .bf16⟩
  | .local _ .vmem, ⟨4, _⟩ => ⟨S128x512, .bf16⟩
  | .local _ .vmem, ⟨5, _⟩ => ⟨S2x16384, .i8⟩
  | .local _ .vmem, ⟨6, _⟩ => ⟨S4x16384, .i32⟩
  | .local _ .vmem, ⟨7, _⟩ => ⟨S30x16384, .i32⟩
  | .local _ .vmem, ⟨8, _⟩ => ⟨S2x512, .i8⟩
  | .local _ .vmem, ⟨9, _⟩ => ⟨S2x512, .i8⟩
  | .local _ .vmem, ⟨10, _⟩ => ⟨S4x512, .i32⟩
  | .local _ .vmem, ⟨11, _⟩ => ⟨S4x512, .i32⟩
  | .local _ .vmem, ⟨12, _⟩ => ⟨S30x512, .i32⟩
  | .local _ .vmem, ⟨13, _⟩ => ⟨S30x512, .i32⟩
  | .local _ .vmem, ⟨14, _⟩ => ⟨S1x512, .bf16⟩
  | .local _ .vmem, ⟨15, _⟩ => ⟨S1x512, .bf16⟩
  | .local _ .vmem, ⟨16, _⟩ => ⟨S1x510, .bf16⟩
  | .local _ .vmem, ⟨17, _⟩ => ⟨S1x510, .bf16⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | .local _ .vmem, ⟨21, _⟩ => ⟨S256x512, .f32⟩
  | .local _ .vmem, ⟨22, _⟩ => ⟨S512x128, .bf16⟩
  | _, _ => ⟨S2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_602 : BitVec 32 := 0#32
  let c64_i32_603 : BitVec 32 := 64#32
  let v1964 : BitVec 32 := Scalar.addi c0_i32_602 c64_i32_603
  let c1_i32_604 : BitVec 32 := 1#32
  ⟨c0_i32_602, v1964, c1_i32_604⟩
def k0_mult1 (k0_t1 : Fin k0_t1_loop.trips) : BitVec 32 :=
  let c0_i32_611 : BitVec 32 := 0#32
  let c0_i32_602 : BitVec 32 := 0#32
  let c1_i32_604 : BitVec 32 := 1#32
  let arg18 : BitVec 32 := Scf.iv c0_i32_602 c1_i32_604 k0_t1
  let c1_i32_610 : BitVec 32 := 1#32
  let v1973 : BitVec 32 := Scalar.muli arg18 c1_i32_610
  let v1974 : BitVec 32 := Scalar.addi c0_i32_611 v1973
  let c256_i32 : BitVec 32 := 256#32
  let v1975 : BitVec 32 := Scalar.muli v1974 c256_i32
  v1975
def k0_off1 (k0_t1 : Fin k0_t1_loop.trips) : Fin 2 → Nat :=
  let c0_612 : Index := 0#32
  let c0_i32_611 : BitVec 32 := 0#32
  let c0_i32_602 : BitVec 32 := 0#32
  let c1_i32_604 : BitVec 32 := 1#32
  let arg18 : BitVec 32 := Scf.iv c0_i32_602 c1_i32_604 k0_t1
  let c1_i32_610 : BitVec 32 := 1#32
  let v1973 : BitVec 32 := Scalar.muli arg18 c1_i32_610
  let v1974 : BitVec 32 := Scalar.addi c0_i32_611 v1973
  let c256_i32 : BitVec 32 := 256#32
  let v1975 : BitVec 32 := Scalar.muli v1974 c256_i32
  let v1976 : BitVec 32 := v1975
  let v1977 : Index := Scalar.indexCast v1976
  ![0, v1977.toNat]
def k0_off2 (k0_t1 : Fin k0_t1_loop.trips) : Fin 2 → Nat :=
  let c0_613 : Index := 0#32
  let c0_i32_611 : BitVec 32 := 0#32
  let c0_i32_602 : BitVec 32 := 0#32
  let c1_i32_604 : BitVec 32 := 1#32
  let arg18 : BitVec 32 := Scf.iv c0_i32_602 c1_i32_604 k0_t1
  let c1_i32_610 : BitVec 32 := 1#32
  let v1973 : BitVec 32 := Scalar.muli arg18 c1_i32_610
  let v1974 : BitVec 32 := Scalar.addi c0_i32_611 v1973
  let c256_i32 : BitVec 32 := 256#32
  let v1975 : BitVec 32 := Scalar.muli v1974 c256_i32
  let v1976 : BitVec 32 := v1975
  let v1980 : Index := Scalar.indexCast v1976
  ![0, v1980.toNat]
def k0_off3 (k0_t1 : Fin k0_t1_loop.trips) : Fin 2 → Nat :=
  let c0_614 : Index := 0#32
  let c0_i32_611 : BitVec 32 := 0#32
  let c0_i32_602 : BitVec 32 := 0#32
  let c1_i32_604 : BitVec 32 := 1#32
  let arg18 : BitVec 32 := Scf.iv c0_i32_602 c1_i32_604 k0_t1
  let c1_i32_610 : BitVec 32 := 1#32
  let v1973 : BitVec 32 := Scalar.muli arg18 c1_i32_610
  let v1974 : BitVec 32 := Scalar.addi c0_i32_611 v1973
  let c256_i32 : BitVec 32 := 256#32
  let v1975 : BitVec 32 := Scalar.muli v1974 c256_i32
  let v1976 : BitVec 32 := v1975
  let v1983 : Index := Scalar.indexCast v1976
  ![0, v1983.toNat]
def k0_off4 (k0_t1 : Fin k0_t1_loop.trips) : Fin 2 → Nat :=
  let c0_789 : Index := 0#32
  let c0_i32_611 : BitVec 32 := 0#32
  let c0_i32_602 : BitVec 32 := 0#32
  let c1_i32_604 : BitVec 32 := 1#32
  let arg18 : BitVec 32 := Scf.iv c0_i32_602 c1_i32_604 k0_t1
  let c1_i32_610 : BitVec 32 := 1#32
  let v1973 : BitVec 32 := Scalar.muli arg18 c1_i32_610
  let v1974 : BitVec 32 := Scalar.addi c0_i32_611 v1973
  let c256_i32 : BitVec 32 := 256#32
  let v1975 : BitVec 32 := Scalar.muli v1974 c256_i32
  let v1976 : BitVec 32 := v1975
  let v2490 : Index := Scalar.indexCast v1976
  ![0, v2490.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x16384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x16384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S30x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x510 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x510 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x128x16384 : Shape := ⟨3, ![2, 128, 16384]⟩
abbrev S8192x5120 : Shape := ⟨2, ![8192, 5120]⟩
abbrev S128x5120 : Shape := ⟨2, ![128, 5120]⟩
abbrev S16384x2 : Shape := ⟨2, ![16384, 2]⟩
abbrev S5120x2 : Shape := ⟨2, ![5120, 2]⟩
abbrev S16384x4 : Shape := ⟨2, ![16384, 4]⟩
abbrev S5120x4 : Shape := ⟨2, ![5120, 4]⟩
abbrev S16384x30 : Shape := ⟨2, ![16384, 30]⟩
abbrev S5120x30 : Shape := ⟨2, ![5120, 30]⟩
abbrev S512 : Shape := ⟨1, ![512]⟩
abbrev S510 : Shape := ⟨1, ![510]⟩
abbrev S128x1x5120 : Shape := ⟨3, ![128, 1, 5120]⟩
abbrev S_ : Shape := ⟨0, ![]⟩
abbrev S128x64x5120 : Shape := ⟨3, ![128, 64, 5120]⟩
abbrev S2x128x8192x2 : Shape := ⟨4, ![2, 128, 8192, 2]⟩
abbrev S2x128x8192x1 : Shape := ⟨4, ![2, 128, 8192, 1]⟩
abbrev S2x128x8192 : Shape := ⟨3, ![2, 128, 8192]⟩
abbrev S2x128x5120 : Shape := ⟨3, ![2, 128, 5120]⟩
abbrev S2 : Shape := ⟨1, ![2]⟩
abbrev S32 : Shape := ⟨1, ![32]⟩
abbrev S40 : Shape := ⟨1, ![40]⟩
abbrev S4x10 : Shape := ⟨2, ![4, 10]⟩
abbrev S478 : Shape := ⟨1, ![478]⟩
abbrev S480 : Shape := ⟨1, ![480]⟩
abbrev S30x16 : Shape := ⟨2, ![30, 16]⟩
abbrev S10 : Shape := ⟨1, ![10]⟩
abbrev S16384x4x1 : Shape := ⟨3, ![16384, 4, 1]⟩
abbrev S1x1x10 : Shape := ⟨3, ![1, 1, 10]⟩
abbrev S16384x4x10 : Shape := ⟨3, ![16384, 4, 10]⟩
abbrev S1x4x10 : Shape := ⟨3, ![1, 4, 10]⟩
abbrev S16384x40 : Shape := ⟨2, ![16384, 40]⟩
abbrev S16 : Shape := ⟨1, ![16]⟩
abbrev S16384x30x1 : Shape := ⟨3, ![16384, 30, 1]⟩
abbrev S1x1x16 : Shape := ⟨3, ![1, 1, 16]⟩
abbrev S16384x30x16 : Shape := ⟨3, ![16384, 30, 16]⟩
abbrev S1x30x16 : Shape := ⟨3, ![1, 30, 16]⟩
abbrev S16384x480 : Shape := ⟨2, ![16384, 480]⟩
abbrev S2x128x2 : Shape := ⟨3, ![2, 128, 2]⟩
abbrev S2x128x40 : Shape := ⟨3, ![2, 128, 40]⟩
abbrev S2x128x480 : Shape := ⟨3, ![2, 128, 480]⟩
abbrev S1x1x2 : Shape := ⟨3, ![1, 1, 2]⟩
abbrev S1x1x40 : Shape := ⟨3, ![1, 1, 40]⟩
abbrev S1x1x480 : Shape := ⟨3, ![1, 1, 480]⟩
abbrev S5120x4x1 : Shape := ⟨3, ![5120, 4, 1]⟩
abbrev S5120x4x10 : Shape := ⟨3, ![5120, 4, 10]⟩
abbrev S5120x40 : Shape := ⟨2, ![5120, 40]⟩
abbrev S5120x30x1 : Shape := ⟨3, ![5120, 30, 1]⟩
abbrev S5120x30x16 : Shape := ⟨3, ![5120, 30, 16]⟩
abbrev S5120x480 : Shape := ⟨2, ![5120, 480]⟩
abbrev S256x5120 : Shape := ⟨2, ![256, 5120]⟩

abbrev nBuf : Space → Nat
  | .hbm => 186
  | .vmem => 0
  | .smem => 0
  | _ => 0

abbrev hbmTy0_0 (i : Nat) : BufTy := match i % 128 with
  | 0 => ⟨S2x128x16384, .bf16⟩
  | 1 => ⟨S8192x5120, .i8⟩
  | 2 => ⟨S128x5120, .bf16⟩
  | 3 => ⟨S16384x2, .i8⟩
  | 4 => ⟨S5120x2, .i8⟩
  | 5 => ⟨S16384x4, .i32⟩
  | 6 => ⟨S5120x4, .i32⟩
  | 7 => ⟨S16384x30, .i32⟩
  | 8 => ⟨S5120x30, .i32⟩
  | 9 => ⟨S512, .bf16⟩
  | 10 => ⟨S512, .bf16⟩
  | 11 => ⟨S510, .bf16⟩
  | 12 => ⟨S510, .bf16⟩
  | 13 => ⟨S512, .f32⟩
  | 14 => ⟨S8192x5120, .i32⟩
  | 15 => ⟨S128x1x5120, .bf16⟩
  | 16 => ⟨S_, .i32⟩
  | 17 => ⟨S8192x5120, .i32⟩
  | 18 => ⟨S8192x5120, .i32⟩
  | 19 => ⟨S_, .i32⟩
  | 20 => ⟨S8192x5120, .i32⟩
  | 21 => ⟨S8192x5120, .i1⟩
  | 22 => ⟨S_, .i32⟩
  | 23 => ⟨S8192x5120, .i32⟩
  | 24 => ⟨S8192x5120, .i32⟩
  | 25 => ⟨S8192x5120, .i32⟩
  | 26 => ⟨S8192x5120, .bf16⟩
  | 27 => ⟨S128x64x5120, .bf16⟩
  | 28 => ⟨S128x64x5120, .bf16⟩
  | 29 => ⟨S128x64x5120, .bf16⟩
  | 30 => ⟨S8192x5120, .bf16⟩
  | 31 => ⟨S_, .i32⟩
  | 32 => ⟨S8192x5120, .i32⟩
  | 33 => ⟨S8192x5120, .i32⟩
  | 34 => ⟨S_, .i32⟩
  | 35 => ⟨S8192x5120, .i32⟩
  | 36 => ⟨S8192x5120, .i1⟩
  | 37 => ⟨S_, .i32⟩
  | 38 => ⟨S8192x5120, .i32⟩
  | 39 => ⟨S8192x5120, .i32⟩
  | 40 => ⟨S8192x5120, .i32⟩
  | 41 => ⟨S8192x5120, .bf16⟩
  | 42 => ⟨S128x64x5120, .bf16⟩
  | 43 => ⟨S128x64x5120, .bf16⟩
  | 44 => ⟨S128x64x5120, .bf16⟩
  | 45 => ⟨S8192x5120, .bf16⟩
  | 46 => ⟨S2x128x8192x2, .bf16⟩
  | 47 => ⟨S2x128x8192x1, .bf16⟩
  | 48 => ⟨S2x128x8192, .bf16⟩
  | 49 => ⟨S2x128x8192x1, .bf16⟩
  | 50 => ⟨S2x128x8192, .bf16⟩
  | 51 => ⟨S2x128x5120, .f32⟩
  | 52 => ⟨S2x128x5120, .f32⟩
  | 53 => ⟨S512, .f32⟩
  | 54 => ⟨S512, .f32⟩
  | 55 => ⟨S512, .f32⟩
  | 56 => ⟨S512, .f32⟩
  | 57 => ⟨S2, .f32⟩
  | 58 => ⟨S32, .f32⟩
  | 59 => ⟨S_, .i32⟩
  | 60 => ⟨S_, .f32⟩
  | 61 => ⟨S40, .f32⟩
  | 62 => ⟨S4x10, .f32⟩
  | 63 => ⟨S40, .f32⟩
  | 64 => ⟨S478, .f32⟩
  | 65 => ⟨S_, .i32⟩
  | 66 => ⟨S_, .f32⟩
  | 67 => ⟨S480, .f32⟩
  | 68 => ⟨S30x16, .f32⟩
  | 69 => ⟨S480, .f32⟩
  | 70 => ⟨S32, .bf16⟩
  | 71 => ⟨S_, .i32⟩
  | 72 => ⟨S_, .bf16⟩
  | 73 => ⟨S40, .bf16⟩
  | 74 => ⟨S4x10, .bf16⟩
  | 75 => ⟨S478, .bf16⟩
  | 76 => ⟨S_, .i32⟩
  | 77 => ⟨S_, .bf16⟩
  | 78 => ⟨S480, .bf16⟩
  | 79 => ⟨S30x16, .bf16⟩
  | 80 => ⟨S32, .bf16⟩
  | 81 => ⟨S_, .i32⟩
  | 82 => ⟨S_, .bf16⟩
  | 83 => ⟨S40, .bf16⟩
  | 84 => ⟨S4x10, .bf16⟩
  | 85 => ⟨S478, .bf16⟩
  | 86 => ⟨S_, .i32⟩
  | 87 => ⟨S_, .bf16⟩
  | 88 => ⟨S480, .bf16⟩
  | 89 => ⟨S30x16, .bf16⟩
  | 90 => ⟨S10, .i32⟩
  | 91 => ⟨S_, .i32⟩
  | 92 => ⟨S10, .i32⟩
  | 93 => ⟨S10, .i32⟩
  | 94 => ⟨S16384x4x1, .i32⟩
  | 95 => ⟨S1x1x10, .i32⟩
  | 96 => ⟨S16384x4x10, .i32⟩
  | 97 => ⟨S16384x4x10, .i32⟩
  | 98 => ⟨S16384x4x10, .i32⟩
  | 99 => ⟨S_, .i32⟩
  | 100 => ⟨S16384x4x10, .i32⟩
  | 101 => ⟨S16384x4x10, .i32⟩
  | 102 => ⟨S16384x4x10, .bf16⟩
  | 103 => ⟨S1x4x10, .bf16⟩
  | 104 => ⟨S16384x4x10, .bf16⟩
  | 105 => ⟨S16384x4x10, .bf16⟩
  | 106 => ⟨S16384x40, .bf16⟩
  | 107 => ⟨S16, .i32⟩
  | 108 => ⟨S_, .i32⟩
  | 109 => ⟨S16, .i32⟩
  | 110 => ⟨S16, .i32⟩
  | 111 => ⟨S16384x30x1, .i32⟩
  | 112 => ⟨S1x1x16, .i32⟩
  | 113 => ⟨S16384x30x16, .i32⟩
  | 114 => ⟨S16384x30x16, .i32⟩
  | 115 => ⟨S16384x30x16, .i32⟩
  | 116 => ⟨S_, .i32⟩
  | 117 => ⟨S16384x30x16, .i32⟩
  | 118 => ⟨S16384x30x16, .i32⟩
  | 119 => ⟨S16384x30x16, .bf16⟩
  | 120 => ⟨S1x30x16, .bf16⟩
  | 121 => ⟨S16384x30x16, .bf16⟩
  | 122 => ⟨S16384x30x16, .bf16⟩
  | 123 => ⟨S16384x480, .bf16⟩
  | 124 => ⟨S16384x2, .i32⟩
  | 125 => ⟨S16384x2, .bf16⟩
  | 126 => ⟨S2x128x2, .f32⟩
  | 127 => ⟨S2x128x40, .f32⟩
  | _ => ⟨S2x128x16384, .bf16⟩

abbrev hbmTy0_1 (i : Nat) : BufTy := match i % 128 with
  | 0 => ⟨S2x128x480, .f32⟩
  | 1 => ⟨S1x1x2, .f32⟩
  | 2 => ⟨S2x128x2, .f32⟩
  | 3 => ⟨S2x128x2, .f32⟩
  | 4 => ⟨S2x128x2, .bf16⟩
  | 5 => ⟨S1x1x40, .f32⟩
  | 6 => ⟨S2x128x40, .f32⟩
  | 7 => ⟨S2x128x40, .f32⟩
  | 8 => ⟨S2x128x40, .bf16⟩
  | 9 => ⟨S1x1x480, .f32⟩
  | 10 => ⟨S2x128x480, .f32⟩
  | 11 => ⟨S2x128x480, .f32⟩
  | 12 => ⟨S2x128x480, .bf16⟩
  | 13 => ⟨S10, .i32⟩
  | 14 => ⟨S_, .i32⟩
  | 15 => ⟨S10, .i32⟩
  | 16 => ⟨S10, .i32⟩
  | 17 => ⟨S5120x4x1, .i32⟩
  | 18 => ⟨S1x1x10, .i32⟩
  | 19 => ⟨S5120x4x10, .i32⟩
  | 20 => ⟨S5120x4x10, .i32⟩
  | 21 => ⟨S5120x4x10, .i32⟩
  | 22 => ⟨S_, .i32⟩
  | 23 => ⟨S5120x4x10, .i32⟩
  | 24 => ⟨S5120x4x10, .i32⟩
  | 25 => ⟨S5120x4x10, .bf16⟩
  | 26 => ⟨S1x4x10, .bf16⟩
  | 27 => ⟨S5120x4x10, .bf16⟩
  | 28 => ⟨S5120x4x10, .bf16⟩
  | 29 => ⟨S5120x40, .bf16⟩
  | 30 => ⟨S16, .i32⟩
  | 31 => ⟨S_, .i32⟩
  | 32 => ⟨S16, .i32⟩
  | 33 => ⟨S16, .i32⟩
  | 34 => ⟨S5120x30x1, .i32⟩
  | 35 => ⟨S1x1x16, .i32⟩
  | 36 => ⟨S5120x30x16, .i32⟩
  | 37 => ⟨S5120x30x16, .i32⟩
  | 38 => ⟨S5120x30x16, .i32⟩
  | 39 => ⟨S_, .i32⟩
  | 40 => ⟨S5120x30x16, .i32⟩
  | 41 => ⟨S5120x30x16, .i32⟩
  | 42 => ⟨S5120x30x16, .bf16⟩
  | 43 => ⟨S1x30x16, .bf16⟩
  | 44 => ⟨S5120x30x16, .bf16⟩
  | 45 => ⟨S5120x30x16, .bf16⟩
  | 46 => ⟨S5120x480, .bf16⟩
  | 47 => ⟨S5120x2, .i32⟩
  | 48 => ⟨S5120x2, .bf16⟩
  | 49 => ⟨S2x128x5120, .f32⟩
  | 50 => ⟨S2x128x5120, .f32⟩
  | 51 => ⟨S2x128x5120, .f32⟩
  | 52 => ⟨S2x128x5120, .f32⟩
  | 53 => ⟨S2x128x5120, .f32⟩
  | 54 => ⟨S2x128x5120, .f32⟩
  | 55 => ⟨S2x128x5120, .f32⟩
  | 56 => ⟨S2x128x5120, .bf16⟩
  | 57 => ⟨S256x5120, .bf16⟩
  | _ => ⟨S2x128x16384, .bf16⟩

abbrev hbmTy (i : Nat) : BufTy := match i / 128 with
  | 0 => hbmTy0_0 i
  | 1 => hbmTy0_1 i
  | _ => ⟨S2x128x16384, .bf16⟩

abbrev bufTy : (tb : Table) → Fin (tcTables nBuf tb) → BufTy
  | .hbm, ⟨i, _⟩ => hbmTy i
  | _, _ => ⟨S2x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_call3_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_call4_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_call5_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_call6_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_call7_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_15 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_16 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_17 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_c_18 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩

abbrev nD : Nat := 1
abbrev τ : Topo := Topo.v7x

variable {F : FTy → Type} [FloatOps F]
-- ==== Proof.Fields.lean ====
/- Bit facts about the packed words: what a shift, a mask and a half-word of a packed word are, in terms of the word's
   fields (`field b i w`: the `b`-bit field number `i` of `w`), and what the half-words denote as bfloat16 numbers. -/
module

public import Idealize.ShloMosaic.Lib.PackedFields
public import Idealize.ShloMosaic.Lib.Pointwise
public import Idealize.ShloMosaic.Lib.BitcastPair

@[expose] public section

set_option maxRecDepth 16384

noncomputable section

namespace Cert.Delta

open Idealize.ShloMosaic Idealize.ShloMosaic.PackedFields

/-- Bit `j` of a word's field, as bit of the word. -/
theorem getLsbD_field (n b i j : Nat) (w : BitVec 32) (hn : b ≤ n) :
    (BitVec.ofNat n (field b i w.toNat)).getLsbD j = (decide (j < b) && w.getLsbD (b * i + j)) := by
  rw [BitVec.getLsbD_ofNat, testBit_field, ← BitVec.testBit_toNat]
  by_cases h : j < b
  · simp [h, Nat.lt_of_lt_of_le h hn]
  · simp [h]

/-- A logical shift right by an amount below the width. -/
theorem shrui_lt (u : ArithUnit) (w : BitVec 32) (s : Nat) (h : s < 32) : IntOp.shrui u w (BitVec.ofNat 32 s) = w >>> s := by
  have e : (BitVec.ofNat 32 s).toNat = s := by rw [BitVec.toNat_ofNat]; omega
  unfold IntOp.shrui
  rw [if_pos (by omega), BitVec.ushiftRight_eq', e]

/-- A shift left by an amount below the width. -/
theorem shli_lt (u : ArithUnit) (w : BitVec 32) (s : Nat) (h : s < 32) : IntOp.shli u w (BitVec.ofNat 32 s) = w <<< s := by
  have e : (BitVec.ofNat 32 s).toNat = s := by rw [BitVec.toNat_ofNat]; omega
  unfold IntOp.shli
  rw [if_pos (by omega), BitVec.shiftLeft_eq', e]

/-- The half-word `h` of `((w >> 2f) & 0x00030003) | 0x43004300` is `0x4300` with `w`'s two-bit field `f + 8h` below it. -/
theorem half_two (w : BitVec 32) (f h : Nat) (hf : f < 8) (hh : h < 2) :
    BitVec.extractLsb' (16 * h) 16 (IntOp.ori (IntOp.andi (IntOp.shrui .vector w (BitVec.ofNat 32 (2 * f))) 196611#32) 1124090624#32)
      = 0x4300#16 ||| BitVec.ofNat 16 (field 2 (f + 8 * h) w.toNat) := by
  rw [shrui_lt _ _ _ (by omega)]
  apply BitVec.eq_of_getLsbD_eq
  intro i hi
  rw [BitVec.getLsbD_or, getLsbD_field 16 2 _ _ _ (by decide), BitVec.getLsbD_extractLsb']
  unfold IntOp.ori IntOp.andi
  rw [BitVec.getLsbD_or, BitVec.getLsbD_and, BitVec.getLsbD_ushiftRight, show 2 * f + (16 * h + i) = 2 * (f + 8 * h) + i by omega]
  generalize w.getLsbD _ = c
  interval_cases h <;> interval_cases i <;> revert c <;> decide

/-- Twelve bits of one word below twelve bits of another, each from bit `12p`: the two words' three-bit fields `4p .. 4p+3`. -/
def pairOf (p : Nat) (lo hi : BitVec 32) : BitVec 32 :=
  IntOp.ori (IntOp.andi (IntOp.shrui .vector lo (BitVec.ofNat 32 (12 * p))) 4095#32)
    (IntOp.shli .vector (IntOp.andi (IntOp.shrui .vector hi (BitVec.ofNat 32 (12 * p))) 4095#32) 16#32)

/-- The half-word `h` of a pair word shifted by `3 (f % 4)`, masked and biased is `0x4300` with the three-bit field `f` of the
    low or high word below it. -/
theorem half_three (lo hi : BitVec 32) (f h : Nat) (hf : f < 8) (hh : h < 2) :
    BitVec.extractLsb' (16 * h) 16 (IntOp.ori (IntOp.andi (IntOp.shrui .vector (pairOf (f / 4) lo hi) (BitVec.ofNat 32 (3 * (f % 4)))) 458759#32) 1124090624#32)
      = 0x4300#16 ||| BitVec.ofNat 16 (field 3 f (if h = 0 then lo else hi).toNat) := by
  unfold pairOf
  rw [shrui_lt _ _ _ (by omega), shrui_lt _ _ _ (by omega), shrui_lt _ _ _ (by omega), shli_lt _ _ 16 (by omega)]
  apply BitVec.eq_of_getLsbD_eq
  intro i hi'
  rw [BitVec.getLsbD_or, getLsbD_field 16 3 _ _ _ (by decide), BitVec.getLsbD_extractLsb']
  unfold IntOp.ori IntOp.andi
  rw [BitVec.getLsbD_or, BitVec.getLsbD_and, BitVec.getLsbD_ushiftRight, BitVec.getLsbD_or, BitVec.getLsbD_and,
    BitVec.getLsbD_shiftLeft, BitVec.getLsbD_and, BitVec.getLsbD_ushiftRight, BitVec.getLsbD_ushiftRight]
  have e : f = 4 * (f / 4) + f % 4 := by omega
  have h4 : f % 4 < 4 := by omega
  generalize f / 4 = p at *
  generalize f % 4 = q at *
  subst e
  interval_cases h
  · rw [if_pos rfl, show 12 * p + (3 * q + (16 * 0 + i)) = 3 * (4 * p + q) + i by omega]
    generalize lo.getLsbD _ = c
    generalize hi.getLsbD _ = d
    revert c d
    interval_cases q <;> interval_cases i <;> decide
  · rw [if_neg (by decide)]
    by_cases h3 : i < 3
    · rw [show 12 * p + (3 * q + (16 * 1 + i) - 16) = 3 * (4 * p + q) + i by omega]
      generalize lo.getLsbD _ = c
      generalize hi.getLsbD _ = d
      revert c d
      interval_cases q <;> interval_cases i <;> decide
    · generalize lo.getLsbD _ = c
      generalize hi.getLsbD _ = d
      generalize hi.getLsbD _ = e
      revert c d e
      interval_cases q <;> interval_cases i <;> decide

/-- The composed word of the last three-bit fields: two fields of `d`, then field 8 of `a`, `b`, `c`, then field 9 of them —
    put together in the order the or-operations take. -/
def lastOf (a b c d : BitVec 32) : BitVec 32 :=
  let g := fun (w : BitVec 32) (s t : Nat) => IntOp.shli .vector (IntOp.andi (IntOp.shrui .vector w (BitVec.ofNat 32 s)) 7#32) (BitVec.ofNat 32 t)
  IntOp.ori (IntOp.ori (IntOp.ori (IntOp.ori (IntOp.ori (IntOp.ori (IntOp.andi d 63#32) (g a 24 6)) (g a 27 15)) (g b 24 9)) (g b 27 18)) (g c 24 12)) (g c 27 21)

/-- Which packed word and which of its fields the composed word's field `f` is. -/
theorem field_lastOf (a b c d : BitVec 32) (f : Nat) (hf : f < 8) :
    field 3 f (lastOf a b c d).toNat
      = if f < 2 then field 3 f d.toNat
        else if f < 5 then field 3 8 (if f = 2 then a else if f = 3 then b else c).toNat
        else field 3 9 (if f = 5 then a else if f = 6 then b else c).toNat := by
  apply Nat.eq_of_testBit_eq
  intro j
  have key : ∀ (g : Nat) (w : BitVec 32), (field 3 g w.toNat).testBit j = (decide (j < 3) && w.getLsbD (3 * g + j)) := fun g w => by
    rw [testBit_field, BitVec.testBit_toNat]
  by_cases hj : j < 3
  · unfold lastOf
    dsimp only
    simp only [shrui_lt _ _ 24 (by decide), shrui_lt _ _ 27 (by decide), shli_lt _ _ 6 (by decide), shli_lt _ _ 15 (by decide),
      shli_lt _ _ 9 (by decide), shli_lt _ _ 18 (by decide), shli_lt _ _ 12 (by decide), shli_lt _ _ 21 (by decide), IntOp.ori, IntOp.andi]
    interval_cases f <;> simp only [Nat.reduceLT, ↓reduceIte, Nat.reduceEqDiff] <;> rw [key, key] <;>
      interval_cases j <;> simp
  · have : ∀ x, (if f < 2 then field 3 f d.toNat
        else if f < 5 then field 3 8 (if f = 2 then a else if f = 3 then b else c).toNat
        else field 3 9 (if f = 5 then a else if f = 6 then b else c).toNat) = x → x.testBit j = false := by
      intro x hx
      subst hx
      split_ifs <;> rw [key] <;> simp [hj]
    rw [key, this _ rfl]
    simp [hj]

/-- The half-word `0x4300 | c`, `c` below 8, is the bfloat16 number `128 + c`. -/
theorem ofBits_biased (c : Nat) (hc : c < 8) :
    Ideal.ofBits .bf16 (0x4300#16 ||| BitVec.ofNat 16 c) = (((128 + c : ℕ) : ℝ) : EReal) := by
  interval_cases c <;> simp [Ideal.ofBits, Ideal.ieee] <;> norm_num

/-- Taking the bias off again leaves the field itself. -/
theorem unbias (c : Nat) (hc : c < 8) :
    (Ideal.ofBits .bf16 (0x4300#16 ||| BitVec.ofNat 16 c) : EReal) - (Ideal.ofBits .bf16 0x4300#16 : EReal) = ((c : ℝ) : EReal) := by
  have h0 := ofBits_biased 0 (by decide)
  rw [show (0x4300#16 ||| BitVec.ofNat 16 0 : BitVec 16) = 0x4300#16 by decide] at h0
  rw [ofBits_biased c hc, h0, ← EReal.coe_sub]
  refine congrArg _ ?_
  push_cast
  ring

theorem field_lt (b i w : Nat) : field b i w < 2 ^ b := Nat.mod_lt _ (Nat.two_pow_pos b)

/-- An arithmetic shift and a two-bit mask take the field, as a nonnegative integer. -/
theorem toInt_two (u : ArithUnit) (w : BitVec 32) (i : Nat) (hi : i < 16) :
    (IntOp.andi (IntOp.shrsi u w (BitVec.ofNat 32 (2 * i))) 3#32).toInt = (field 2 i w.toNat : ℤ) := by
  have e : IntOp.andi (IntOp.shrsi u w (BitVec.ofNat 32 (2 * i))) 3#32 = BitVec.ofNat 32 (field 2 i w.toNat) := by
    have e : (BitVec.ofNat 32 (2 * i)).toNat = 2 * i := by rw [BitVec.toNat_ofNat]; omega
    unfold IntOp.shrsi IntOp.andi
    rw [if_pos (by omega), BitVec.sshiftRight_eq', e]
    apply BitVec.eq_of_getLsbD_eq
    intro j hj
    rw [getLsbD_field 32 2 _ _ _ (by decide), BitVec.getLsbD_and, BitVec.getLsbD_sshiftRight]
    by_cases h : j < 2
    · have h1 : 2 * i + j < 32 := by omega
      interval_cases j <;> simp [h1] <;> omega
    · simp only [h, decide_false, Bool.false_and]
      have : (3#32).getLsbD j = false := by
        interval_cases j <;> first | omega | rfl
      simp [this]
  have := field_lt 2 i w.toNat
  rw [e, BitVec.toInt_eq_toNat_of_lt (by rw [BitVec.toNat_ofNat]; omega), BitVec.toNat_ofNat, Nat.mod_eq_of_lt (by omega)]

/-- An arithmetic shift and a three-bit mask take the field, as a nonnegative integer. -/
theorem toInt_three (u : ArithUnit) (w : BitVec 32) (i : Nat) (hi : i < 10) :
    (IntOp.andi (IntOp.shrsi u w (BitVec.ofNat 32 (3 * i))) 7#32).toInt = (field 3 i w.toNat : ℤ) := by
  have e : IntOp.andi (IntOp.shrsi u w (BitVec.ofNat 32 (3 * i))) 7#32 = BitVec.ofNat 32 (field 3 i w.toNat) := by
    have e : (BitVec.ofNat 32 (3 * i)).toNat = 3 * i := by rw [BitVec.toNat_ofNat]; omega
    unfold IntOp.shrsi IntOp.andi
    rw [if_pos (by omega), BitVec.sshiftRight_eq', e]
    apply BitVec.eq_of_getLsbD_eq
    intro j hj
    rw [getLsbD_field 32 3 _ _ _ (by decide), BitVec.getLsbD_and, BitVec.getLsbD_sshiftRight]
    by_cases h : j < 3
    · have h1 : 3 * i + j < 32 := by omega
      interval_cases j <;> simp [h1] <;> omega
    · simp only [h, decide_false, Bool.false_and]
      have : (7#32).getLsbD j = false := by
        interval_cases j <;> first | omega | rfl
      simp [this]
  have := field_lt 3 i w.toNat
  rw [e, BitVec.toInt_eq_toNat_of_lt (by rw [BitVec.toNat_ofNat]; omega), BitVec.toNat_ofNat, Nat.mod_eq_of_lt (by omega)]

end Cert.Delta

end
-- ==== Proof.Unpack.lean ====
module

public import proofs.«01_k».proof.Proof.Fields
public import Idealize.ShloMosaic.Lib.BitcastPair
public import Idealize.ShloMosaic.Lib.Pipeline.Value
public import Idealize.ShloMosaic.Lib.Pipeline.ValueKit

/-! The in-register unpacking of the adapter's packed factors, at any number of columns: 32 blocks of 16 rows laid one on
    the other give a `512 × n` matrix whose row `s` is the factor's rank `rank s`, in an order that suits the bit fields. -/

@[expose] public section

set_option maxRecDepth 16384

noncomputable section

namespace Cert.Delta

open Idealize.ShloMosaic Idealize.ShloMosaic.PackedFields

/-- A matrix's shape. -/
abbrev Sh (r n : Nat) : Shape := ⟨2, ![r, n]⟩

/-! ### The ranks -/

/-- The rank held in slot `s`: slots are eight groups of 64, one for each bit-field position. -/
def rank (s : Nat) : Nat :=
  let f := s / 64
  let t := s % 64
  if t < 60 then
    let c := 16 * (t / 2) + f + 8 * (t % 2)
    if c < 478 then c + 34 else c - 478
  else if t = 60 then f + 2
  else if t = 61 then f + 12
  else if t = 62 then f + 22
  else if f < 2 then f + 32
  else if f < 5 then 10 * (f - 2) + 10
  else 10 * (f - 5) + 11

/-- A rank's integer code: 2 ranks of 8 bits, 32 of 3 bits (ten to a word), 478 of 2 bits (sixteen to a word). -/
def code (a2 : Fin 30 → BitVec 32) (a3 : Fin 4 → BitVec 32) (a8 : Fin 2 → BitVec 8) (r : Nat) : ℝ :=
  if r < 2 then ((a8 (Fin.ofNat 2 r)).toInt : ℝ)
  else if r < 34 then (field 3 ((r - 2) % 10) (a3 (Fin.ofNat 4 ((r - 2) / 10))).toNat : ℝ)
  else (field 2 ((r - 34) % 16) (a2 (Fin.ofNat 30 ((r - 34) / 16))).toNat : ℝ)

/-- A rank's entry of the factor: its code, less the zero point unless it is one of the two 8-bit ranks. -/
def entry (a2 : Fin 30 → BitVec 32) (a3 : Fin 4 → BitVec 32) (a8 : Fin 2 → BitVec 8) (z : EReal) (r : Nat) : EReal :=
  if r < 2 then ((code a2 a3 a8 r : ℝ) : EReal) else ((code a2 a3 a8 r : ℝ) : EReal) - z

/-- The two-bit slots: word row `8k + r`, half-word `h`, field `f + 8h`. -/
theorem rank_two : ∀ (f : Fin 8) (k : Fin 3) (i : Fin 16),
    34 ≤ rank (64 * f + 16 * k + i) ∧ (rank (64 * f + 16 * k + i) - 34) % 16 = f + 8 * (i % 2)
      ∧ (rank (64 * f + 16 * k + i) - 34) / 16 = 8 * k + i / 2 := by decide +kernel

/-- The two-bit slots of the last block of a group, but the two that hold 8-bit ranks. -/
theorem rank_last_two : ∀ (f : Fin 8) (i : Fin 16), i.val < 12 → ¬ (6 ≤ f.val ∧ i.val = 11) →
    34 ≤ rank (64 * f + 48 + i) ∧ (rank (64 * f + 48 + i) - 34) % 16 = f + 8 * (i % 2)
      ∧ (rank (64 * f + 48 + i) - 34) / 16 = 24 + i / 2 := by decide +kernel

/-- The two slots that hold 8-bit ranks. -/
theorem rank_eight : ∀ (f : Fin 8) (i : Fin 16), 6 ≤ f.val → i.val = 11 → rank (64 * f + 48 + i) = f - 6 := by decide +kernel

/-- The three-bit slots read off one packed word each. -/
theorem rank_three : ∀ (f : Fin 8) (i : Fin 16), 12 ≤ i.val → i.val < 15 →
    2 ≤ rank (64 * f + 48 + i) ∧ rank (64 * f + 48 + i) < 34 ∧ (rank (64 * f + 48 + i) - 2) % 10 = f
      ∧ (rank (64 * f + 48 + i) - 2) / 10 = i - 12 := by decide +kernel

/-- The three-bit slots read off the composed word. -/
theorem rank_left : ∀ (f : Fin 8) (i : Fin 16), i.val = 15 →
    2 ≤ rank (64 * f + 48 + i) ∧ rank (64 * f + 48 + i) < 34
      ∧ (rank (64 * f + 48 + i) - 2) % 10 = (if f.val < 2 then f.val else if f.val < 5 then 8 else 9)
      ∧ (rank (64 * f + 48 + i) - 2) / 10 = (if f.val < 2 then 3 else if f.val < 5 then f.val - 2 else f.val - 5) := by decide +kernel

/-! ### Shape relations at any number of columns -/

theorem slices {a b o n : Nat} (h : o + b ≤ a) : (Sh a n).Slices ![o, 0] (Sh b n) :=
  ⟨rfl, fun x => by
    fin_cases x
    · exact h
    · show 0 + n ≤ n; omega⟩

theorem bits (r n : Nat) : (Sh r n).Bitcasts 32 (Sh (2 * r) n) 16 := by
  refine ⟨rfl, fun _ => Nat.le_refl 2, fun x => ?_⟩
  fin_cases x
  · show r * 32 = 2 * r * 16; omega
  · rfl

theorem iotas (r n : Nat) : (Sh r n).Iotas .tc 32 [0] :=
  ⟨by simp, fun _ => ⟨.inr rfl, Nat.le_refl 2⟩, fun h => absurd rfl h⟩

theorem stack {a b c n : Nat} : Shape.Concatenates [Sh a n, Sh b n, Sh c n] (Sh (a + (b + c)) n) 0 := by
  refine ⟨by simp, ?_, rfl⟩
  intro s hs
  simp only [List.mem_cons, List.mem_nil_iff, or_false] at hs
  rcases hs with rfl | rfl | rfl <;> exact ⟨rfl, fun b hb => by fin_cases b <;> first | rfl | exact absurd rfl hb⟩

/-! ### The program's blocks -/

section Blocks
variable {F : FTy → Type} [FloatOps F] {n : Nat}

/-- Half-words with the bias `0x4300` read as numbers, the bias and the zero points taken off. -/
def block (w : IVec (Sh 8 n) 32) (zero : FVec F (Sh 512 n) .bf16) (o : Nat) (h : o + 16 ≤ 512) : FVec F (Sh 16 n) .bf16 :=
  subf (subf (bitcastToFloat .bf16 (bitcast (Sh 16 n) 16 w (bits 8 n))) (broadcast (Sh 16 n) (Scalar.ofBits .bf16 0x4300#16)))
    (extractStridedSlice (Sh 16 n) ![o, 0] zero (slices h))

/-- Eight rows of packed two-bit words, their fields `f` and `f + 8` masked out and biased. -/
def wordsTwo (w2 : IVec (Sh 30 n) 32) (o f : Nat) (h : o + 8 ≤ 30) : IVec (Sh 8 n) 32 :=
  ori (andi (shrui (extractStridedSlice (Sh 8 n) ![o, 0] w2 (slices h)) (broadcast (Sh 8 n) (BitVec.ofNat 32 (2 * f))))
    (broadcast (Sh 8 n) 196611#32)) (broadcast (Sh 8 n) 1124090624#32)

/-- One row of the packed three-bit words. -/
def rowOf (w3 : IVec (Sh 4 n) 32) (r : Nat) (h : r + 1 ≤ 4) : IVec (Sh 1 n) 32 := extractStridedSlice (Sh 1 n) ![r, 0] w3 (slices h)

/-- Two rows' 12-bit halves side by side (`pairOf`, entry by entry). -/
def pairRow (p : Nat) (lo hi : IVec (Sh 1 n) 32) : IVec (Sh 1 n) 32 :=
  ori (andi (shrui lo (broadcast (Sh 1 n) (BitVec.ofNat 32 (12 * p)))) (broadcast (Sh 1 n) 4095#32))
    (shli (andi (shrui hi (broadcast (Sh 1 n) (BitVec.ofNat 32 (12 * p)))) (broadcast (Sh 1 n) 4095#32)) (broadcast (Sh 1 n) 16#32))

/-- The row composed of the fields the other three leave over (`lastOf`, entry by entry). -/
def lastRow (a b c d : IVec (Sh 1 n) 32) : IVec (Sh 1 n) 32 := fun j => lastOf (a j) (b j) (c j) (d j)

/-- The last block's words: six rows of two-bit words, two of three-bit pairs. -/
def lastWords (w2 : IVec (Sh 30 n) 32) (w3 : IVec (Sh 4 n) 32) (p : Nat) : IVec (Sh 8 n) 32 :=
  concatenate (Sh 8 n) 0 [⟨Sh 6 n, extractStridedSlice (Sh 6 n) ![24, 0] w2 (slices (by decide))⟩,
    ⟨Sh 1 n, pairRow p (rowOf w3 0 (by decide)) (rowOf w3 1 (by decide))⟩,
    ⟨Sh 1 n, pairRow p (rowOf w3 2 (by decide))
      (lastRow (rowOf w3 0 (by decide)) (rowOf w3 1 (by decide)) (rowOf w3 2 (by decide)) (rowOf w3 3 (by decide)))⟩] stack

/-- The rows of the last block that hold three-bit pairs. -/
def isThree : IVec (Sh 8 n) 1 := cmpi .sge (iota .tc (Sh 8 n) 32 [0] (iotas 8 n)) (broadcast (Sh 8 n) 6#32)

/-- The last block's words, masked and biased. -/
def wordsLast (w2 : IVec (Sh 30 n) 32) (w3 : IVec (Sh 4 n) 32) (f : Nat) : IVec (Sh 8 n) 32 :=
  ori (andi (shrui (lastWords w2 w3 (f / 4))
      (select isThree (broadcast (Sh 8 n) (BitVec.ofNat 32 (3 * (f % 4)))) (broadcast (Sh 8 n) (BitVec.ofNat 32 (2 * f)))))
    (select isThree (broadcast (Sh 8 n) 458759#32) (broadcast (Sh 8 n) 196611#32))) (broadcast (Sh 8 n) 1124090624#32)

/-- The 8-bit row put in row 11. -/
def patch (w8 : IVec (Sh 2 n) 8) (r : Nat) (h : r + 1 ≤ 2) (x : FVec F (Sh 16 n) .bf16) : FVec F (Sh 16 n) .bf16 :=
  select (cmpi .eq (iota .tc (Sh 16 n) 32 [0] (iotas 16 n)) (broadcast (Sh 16 n) 11#32))
    (broadcastTo (Sh 16 n) (shapeCast (Sh 1 n)
      (extractStridedSlice (Sh 1 n) ![r, 0] (truncf .bf16 (sitofp .f32 w8 : FVec F (Sh 2 n) .f32) (by decide)) (slices h)) rfl)
      ⟨Nat.le_refl 2, fun x => by fin_cases x <;> first | exact .inl rfl | exact .inr fun _ => rfl⟩) x

/-- Block `k` of group `f`. -/
def piece (w2 : IVec (Sh 30 n) 32) (w3 : IVec (Sh 4 n) 32) (w8 : IVec (Sh 2 n) 8) (zero : FVec F (Sh 512 n) .bf16) (j : Fin 32) :
    FVec F (Sh 16 n) .bf16 :=
  if h : j.val % 4 < 3 then block (wordsTwo w2 (8 * (j.val % 4)) (j.val / 4) (by omega)) zero (16 * j.val) (by omega)
  else if h : j.val / 4 < 6 then block (wordsLast w2 w3 (j.val / 4)) zero (16 * j.val) (by omega)
  else patch w8 (j.val / 4 - 6) (by omega) (block (wordsLast w2 w3 (j.val / 4)) zero (16 * j.val) (by omega))

theorem piles (n : Nat) (f : Fin 32 → FVec F (Sh 16 n) .bf16) :
    Shape.Concatenates ((List.ofFn fun j : Fin 32 => (⟨Sh 16 n, f j⟩ : (s : Shape) × (s.Idx → F .bf16))).map (·.1)) (Sh 512 n) 0 := by
  have e : (List.ofFn fun j : Fin 32 => (⟨Sh 16 n, f j⟩ : (s : Shape) × (s.Idx → F .bf16))).map (·.1) = List.replicate 32 (Sh 16 n) := by
    rw [List.map_ofFn]
    exact List.ofFn_const 32 (Sh 16 n)
  rw [e]
  refine ⟨by rw [List.length_replicate]; decide, ?_, by rw [List.map_replicate, List.sum_replicate]; rfl⟩
  intro s hs
  obtain rfl := List.eq_of_mem_replicate hs
  exact ⟨rfl, fun b hb => by fin_cases b <;> first | rfl | exact absurd rfl hb⟩

/-- The unpacked factor. -/
def unpack (w2 : IVec (Sh 30 n) 32) (w3 : IVec (Sh 4 n) 32) (w8 : IVec (Sh 2 n) 8) (zero : FVec F (Sh 512 n) .bf16) :
    FVec F (Sh 512 n) .bf16 :=
  concatenate (Sh 512 n) 0 (List.ofFn fun j : Fin 32 => ⟨Sh 16 n, piece w2 w3 w8 zero j⟩) (piles n _)

/-- Thirty-two blocks listed one by one are the family of them. -/
theorem pile_eq (f : Fin 32 → FVec F (Sh 16 n) .bf16) (x0 x1 x2 x3 x4 x5 x6 x7 x8 x9 x10 x11 x12 x13 x14 x15 x16 x17 x18 x19 x20 x21 x22
    x23 x24 x25 x26 x27 x28 x29 x30 x31 : FVec F (Sh 16 n) .bf16)
    (h : Shape.Concatenates (([⟨Sh 16 n, x0⟩, ⟨Sh 16 n, x1⟩, ⟨Sh 16 n, x2⟩, ⟨Sh 16 n, x3⟩, ⟨Sh 16 n, x4⟩, ⟨Sh 16 n, x5⟩, ⟨Sh 16 n, x6⟩,
    ⟨Sh 16 n, x7⟩, ⟨Sh 16 n, x8⟩, ⟨Sh 16 n, x9⟩, ⟨Sh 16 n, x10⟩, ⟨Sh 16 n, x11⟩, ⟨Sh 16 n, x12⟩, ⟨Sh 16 n, x13⟩, ⟨Sh 16 n, x14⟩, ⟨Sh 16 n,
    x15⟩, ⟨Sh 16 n, x16⟩, ⟨Sh 16 n, x17⟩, ⟨Sh 16 n, x18⟩, ⟨Sh 16 n, x19⟩, ⟨Sh 16 n, x20⟩, ⟨Sh 16 n, x21⟩, ⟨Sh 16 n, x22⟩, ⟨Sh 16 n, x23⟩, ⟨Sh
    16 n, x24⟩, ⟨Sh 16 n, x25⟩, ⟨Sh 16 n, x26⟩, ⟨Sh 16 n, x27⟩, ⟨Sh 16 n, x28⟩, ⟨Sh 16 n, x29⟩, ⟨Sh 16 n, x30⟩, ⟨Sh 16 n, x31⟩] : List ((s :
    Shape) × (s.Idx → F .bf16))).map (·.1)) (Sh 512 n) 0)
    (h0 : x0 = f 0) (h1 : x1 = f 1) (h2 : x2 = f 2) (h3 : x3 = f 3) (h4 : x4 = f 4) (h5 : x5 = f 5) (h6 : x6 = f 6) (h7 : x7 = f 7) (h8 :
    x8 = f 8) (h9 : x9 = f 9) (h10 : x10 = f 10) (h11 : x11 = f 11) (h12 : x12 = f 12) (h13 : x13 = f 13) (h14 : x14 = f 14) (h15 : x15 = f
    15) (h16 : x16 = f 16) (h17 : x17 = f 17) (h18 : x18 = f 18) (h19 : x19 = f 19) (h20 : x20 = f 20) (h21 : x21 = f 21) (h22 : x22 = f 22)
    (h23 : x23 = f 23) (h24 : x24 = f 24) (h25 : x25 = f 25) (h26 : x26 = f 26) (h27 : x27 = f 27) (h28 : x28 = f 28) (h29 : x29 = f 29) (h30
    : x30 = f 30) (h31 : x31 = f 31) :
    concatenate (Sh 512 n) 0 [⟨Sh 16 n, x0⟩, ⟨Sh 16 n, x1⟩, ⟨Sh 16 n, x2⟩, ⟨Sh 16 n, x3⟩, ⟨Sh 16 n, x4⟩, ⟨Sh 16 n, x5⟩, ⟨Sh 16 n, x6⟩, ⟨Sh
    16 n, x7⟩, ⟨Sh 16 n, x8⟩, ⟨Sh 16 n, x9⟩, ⟨Sh 16 n, x10⟩, ⟨Sh 16 n, x11⟩, ⟨Sh 16 n, x12⟩, ⟨Sh 16 n, x13⟩, ⟨Sh 16 n, x14⟩, ⟨Sh 16 n, x15⟩,
    ⟨Sh 16 n, x16⟩, ⟨Sh 16 n, x17⟩, ⟨Sh 16 n, x18⟩, ⟨Sh 16 n, x19⟩, ⟨Sh 16 n, x20⟩, ⟨Sh 16 n, x21⟩, ⟨Sh 16 n, x22⟩, ⟨Sh 16 n, x23⟩, ⟨Sh 16 n,
    x24⟩, ⟨Sh 16 n, x25⟩, ⟨Sh 16 n, x26⟩, ⟨Sh 16 n, x27⟩, ⟨Sh 16 n, x28⟩, ⟨Sh 16 n, x29⟩, ⟨Sh 16 n, x30⟩, ⟨Sh 16 n, x31⟩] h
      = concatenate (Sh 512 n) 0 (List.ofFn fun j : Fin 32 => ⟨Sh 16 n, f j⟩) (piles n f) := by
  subst h0 h1 h2 h3 h4 h5 h6 h7 h8 h9 h10 h11 h12 h13 h14 h15 h16 h17 h18 h19 h20 h21 h22 h23 h24 h25 h26 h27 h28 h29 h30 h31
  rfl

end Blocks

/-! ### What they hold -/

variable {n : Nat}

theorem slice_at {α : Type} {a b o : Nat} (h : o + b ≤ a) (x : (Sh a n).Idx → α) (i : Fin b) (d : Fin n) :
    extractStridedSlice (Sh b n) ![o, 0] x (slices h) (ix2 i d) = x (ix2 (⟨o + i, by omega⟩ : Fin a) d) := by
  refine congrArg x ?_
  funext a
  fin_cases a
  · rfl
  · exact Fin.ext (Nat.zero_add _)

theorem half_at {r : Nat} (x : IVec (Sh r n) 32) (i : Fin (2 * r)) (d : Fin n) :
    bitcast (Sh (2 * r) n) 16 x (bits r n) (ix2 i d) = (x (ix2 (⟨i / 2, by omega⟩ : Fin r) d)).extractLsb' (16 * (i % 2)) 16 := by
  rw [bitcast_32_16]
  have e : (Sh (2 * r) n).row (ix2 i d) = i.val := rfl
  congr 1
  · refine congrArg x ?_
    funext a
    fin_cases a
    · exact Fin.ext (((bits r n).srcIdx_row _ _ _ ⟨0, Nat.zero_lt_two⟩ rfl).trans (by rw [e]; rfl))
    · exact Fin.ext ((bits r n).srcIdx_other _ _ _ ⟨1, Nat.one_lt_two⟩ (by show ¬ 1 + 2 = 2; omega))

theorem block_at (w : IVec (Sh 8 n) 32) (zero : FVec Ideal (Sh 512 n) .bf16) (o : Nat) (h : o + 16 ≤ 512) (i : Fin 16) (d : Fin n) :
    block w zero o h (ix2 i d)
      = (Ideal.ofBits .bf16 ((w (ix2 (⟨i / 2, by omega⟩ : Fin 8) d)).extractLsb' (16 * (i % 2)) 16) - Ideal.ofBits .bf16 0x4300#16 : EReal)
        - zero (ix2 (⟨o + i, by omega⟩ : Fin 512) d) := by
  rw [← slice_at h zero i d, ← half_at (r := 8) w i d]
  rfl

theorem wordsTwo_at (w2 : IVec (Sh 30 n) 32) (o f : Nat) (h : o + 8 ≤ 30) (r : Fin 8) (d : Fin n) :
    wordsTwo w2 o f h (ix2 r d)
      = IntOp.ori (IntOp.andi (IntOp.shrui .vector (w2 (ix2 (⟨o + r, by omega⟩ : Fin 30) d)) (BitVec.ofNat 32 (2 * f))) 196611#32) 1124090624#32 := by
  rw [← slice_at h w2 r d]
  rfl

theorem two_lt (i w : Nat) : field 2 i w < 8 := Nat.lt_trans (field_lt 2 i w) (by decide)

/-- A two-bit slot's biased half-word, the bias off. -/
theorem two_at (w2 : IVec (Sh 30 n) 32) (o f : Nat) (h : o + 8 ≤ 30) (hf : f < 8) (i : Fin 16) (d : Fin n) :
    (Ideal.ofBits .bf16 ((wordsTwo w2 o f h (ix2 (⟨i / 2, by omega⟩ : Fin 8) d)).extractLsb' (16 * (i % 2)) 16)
        - Ideal.ofBits .bf16 0x4300#16 : EReal)
      = (((field 2 (f + 8 * (i % 2)) (w2 (ix2 (⟨o + i / 2, by omega⟩ : Fin 30) d)).toNat : ℕ) : ℝ) : EReal) := by
  rw [wordsTwo_at, half_two _ f (i % 2) hf (Nat.mod_lt _ (by decide)), unbias _ (two_lt _ _)]

theorem pairRow_at (p : Nat) (lo hi : IVec (Sh 1 n) 32) (j : (Sh 1 n).Idx) : pairRow p lo hi j = pairOf p (lo j) (hi j) := rfl

theorem lastWords_lo (w2 : IVec (Sh 30 n) 32) (w3 : IVec (Sh 4 n) 32) (p : Nat) (r : Fin 8) (hr : r.val < 6) (d : Fin n) :
    lastWords w2 w3 p (ix2 r d) = w2 (ix2 (⟨24 + r, by omega⟩ : Fin 30) d) := by
  unfold lastWords
  refine (concatenate_apply_piece (t := Sh 8 n) 0 _ _ (ix2 r d) 0 (by simp) (Sh 6 n) _ rfl rfl 0 rfl
    (ix2 (⟨r, hr⟩ : Fin 6) d) (fun b hb => ?_) ?_).trans (slice_at (by decide) w2 _ d)
  · fin_cases b
    · exact absurd rfl hb
    · rfl
  · exact Nat.zero_add _

/-- The two rows of three-bit pairs: words 0 and 1, word 2 and the composed word. -/
theorem lastWords_hi (w2 : IVec (Sh 30 n) 32) (w3 : IVec (Sh 4 n) 32) (p : Nat) (r : Fin 8) (hr : 6 ≤ r.val) (d : Fin n) :
    lastWords w2 w3 p (ix2 r d) = if r.val = 6 then pairOf p (w3 (ix2 0 d)) (w3 (ix2 1 d))
      else pairOf p (w3 (ix2 2 d)) (lastOf (w3 (ix2 0 d)) (w3 (ix2 1 d)) (w3 (ix2 2 d)) (w3 (ix2 3 d))) := by
  have hrow : ∀ (q : Nat) (hq : q + 1 ≤ 4), rowOf w3 q hq (ix2 0 d) = w3 (ix2 (⟨q, hq⟩ : Fin 4) d) := fun q hq => slice_at hq w3 0 d
  unfold lastWords
  split
  · next h6 =>
    refine (concatenate_apply_piece (t := Sh 8 n) 0 _ _ (ix2 r d) 1 (by simp) (Sh 1 n) _ rfl rfl 6 rfl
      (ix2 (0 : Fin 1) d) (fun b hb => ?_) ?_).trans ?_
    · fin_cases b
      · exact absurd rfl hb
      · rfl
    · exact h6.symm
    · rw [pairRow_at, hrow, hrow]
      rfl
  · next h6 =>
    refine (concatenate_apply_piece (t := Sh 8 n) 0 _ _ (ix2 r d) 2 (by simp) (Sh 1 n) _ rfl rfl 7 rfl
      (ix2 (0 : Fin 1) d) (fun b hb => ?_) ?_).trans ?_
    · fin_cases b
      · exact absurd rfl hb
      · rfl
    · show 7 + 0 = r.val; omega
    · rw [pairRow_at, lastRow, hrow, hrow, hrow, hrow]
      rfl

theorem isThree_at (r : Fin 8) (d : Fin n) : isThree (ix2 r d) = if 6 ≤ r.val then 1#1 else 0#1 := by
  show IntOp.cmpi .sge (BitVec.ofNat 32 (0 * 8 + r.val)) 6#32 = _
  rw [Nat.zero_mul, Nat.zero_add]
  have e : ∀ r : Fin 8, IntOp.cmpi .sge (BitVec.ofNat 32 r.val) 6#32 = if 6 ≤ r.val then 1#1 else 0#1 := by decide
  exact e r

theorem wordsLast_at (w2 : IVec (Sh 30 n) 32) (w3 : IVec (Sh 4 n) 32) (f : Nat) (r : Fin 8) (d : Fin n) :
    wordsLast w2 w3 f (ix2 r d) = if 6 ≤ r.val then
        IntOp.ori (IntOp.andi (IntOp.shrui .vector (lastWords w2 w3 (f / 4) (ix2 r d)) (BitVec.ofNat 32 (3 * (f % 4)))) 458759#32) 1124090624#32
      else IntOp.ori (IntOp.andi (IntOp.shrui .vector (lastWords w2 w3 (f / 4) (ix2 r d)) (BitVec.ofNat 32 (2 * f))) 196611#32) 1124090624#32 := by
  show IntOp.ori (IntOp.andi (IntOp.shrui .vector _ (if isThree (ix2 r d) = 1#1 then _ else _)) (if isThree (ix2 r d) = 1#1 then _ else _)) _ = _
  rw [isThree_at]
  by_cases h : 6 ≤ r.val
  · simp only [if_pos h, if_pos]
    rfl
  · simp only [if_neg h]
    rfl

/-- The last block's slots but the patched ones: the bias off, a two-bit field in the first twelve, a three-bit one in the others. -/
theorem last_at (w2 : IVec (Sh 30 n) 32) (w3 : IVec (Sh 4 n) 32) (f : Nat) (hf : f < 8) (i : Fin 16) (d : Fin n) :
    (Ideal.ofBits .bf16 ((wordsLast w2 w3 f (ix2 (⟨i / 2, by omega⟩ : Fin 8) d)).extractLsb' (16 * (i % 2)) 16)
        - Ideal.ofBits .bf16 0x4300#16 : EReal)
      = if i.val < 12 then (((field 2 (f + 8 * (i % 2)) (w2 (ix2 (Fin.ofNat 30 (24 + i / 2)) d)).toNat : ℕ) : ℝ) : EReal)
        else if i.val < 15 then (((field 3 f (w3 (ix2 (Fin.ofNat 4 (i - 12)) d)).toNat : ℕ) : ℝ) : EReal)
        else (((field 3 f (lastOf (w3 (ix2 0 d)) (w3 (ix2 1 d)) (w3 (ix2 2 d)) (w3 (ix2 3 d))).toNat : ℕ) : ℝ) : EReal) := by
  have h2 : i.val % 2 < 2 := Nat.mod_lt _ (by decide)
  rw [wordsLast_at]
  split
  · next h6 =>
    have h6 : 6 ≤ i.val / 2 := h6
    rw [lastWords_hi _ _ _ _ h6]
    by_cases h : i.val / 2 = 6
    · rw [if_pos (show ((⟨i / 2, by omega⟩ : Fin 8) : Nat) = 6 from h), half_three _ _ f _ hf h2, unbias _ (field_lt _ _ _),
        if_neg (show ¬ i.val < 12 by omega), if_pos (show i.val < 15 by omega)]
      have hi : i.val = 12 ∨ i.val = 13 := by omega
      rcases hi with e | e <;> simp only [e] <;> rfl
    · rw [if_neg (show ¬ ((⟨i / 2, by omega⟩ : Fin 8) : Nat) = 6 from h), half_three _ _ f _ hf h2, unbias _ (field_lt _ _ _),
        if_neg (show ¬ i.val < 12 by omega)]
      have hi : i.val = 14 ∨ i.val = 15 := by omega
      rcases hi with e | e <;> simp only [e] <;> rfl
  · next h6 =>
    have h6 : ¬ 6 ≤ i.val / 2 := h6
    rw [lastWords_lo _ _ _ _ (by show i.val / 2 < 6; omega), half_two _ f _ hf h2, unbias _ (two_lt _ _), if_pos (by omega)]
    have e : (⟨24 + i.val / 2, by omega⟩ : Fin 30) = Fin.ofNat 30 (24 + i / 2) := Fin.ext (by simp [Fin.ofNat]; omega)
    rw [← e]

theorem patch_at (w8 : IVec (Sh 2 n) 8) (r : Nat) (h : r + 1 ≤ 2) (x : FVec Ideal (Sh 16 n) .bf16) (i : Fin 16) (d : Fin n) :
    patch w8 r h x (ix2 i d) = if i.val = 11 then (((w8 (ix2 (⟨r, h⟩ : Fin 2) d)).toInt : ℝ) : EReal) else x (ix2 i d) := by
  have e : ∀ i : Fin 16, IntOp.cmpi .eq (BitVec.ofNat 32 i.val) 11#32 = if i.val = 11 then 1#1 else 0#1 := by decide
  have e' : cmpi .eq (iota .tc (Sh 16 n) 32 [0] (iotas 16 n)) (broadcast (Sh 16 n) 11#32) (ix2 i d) = if i.val = 11 then 1#1 else 0#1 := by
    show IntOp.cmpi .eq (BitVec.ofNat 32 (0 * 16 + i.val)) 11#32 = _
    rw [Nat.zero_mul, Nat.zero_add]
    exact e i
  show (if cmpi .eq (iota .tc (Sh 16 n) 32 [0] (iotas 16 n)) (broadcast (Sh 16 n) 11#32) (ix2 i d) = 1#1 then _ else x (ix2 i d)) = _
  rw [e']
  by_cases hi : i.val = 11
  · simp only [if_pos hi, if_pos]
    rw [shapeCast_self]
    pointwise
    refine congrArg (fun y => (((w8 y).toInt : ℝ) : EReal)) ?_
    funext a
    fin_cases a
    · rfl
    · refine Fin.ext ?_
      show 0 + (if h : n = 1 then (⟨0, _⟩ : Fin n) else ⟨d.val, _⟩).val = d.val
      split
      · show 0 + 0 = d.val
        omega
      · exact Nat.zero_add _
  · simp only [if_neg hi]
    rfl

theorem code_two {a2 : Fin 30 → BitVec 32} {a3 : Fin 4 → BitVec 32} {a8 : Fin 2 → BitVec 8} {r g q : Nat} (h1 : 34 ≤ r)
    (h2 : (r - 34) % 16 = g) (h3 : (r - 34) / 16 = q) : code a2 a3 a8 r = ((field 2 g (a2 (Fin.ofNat 30 q)).toNat : ℕ) : ℝ) := by
  unfold code
  rw [if_neg (by omega), if_neg (by omega), h2, h3]

theorem code_three {a2 : Fin 30 → BitVec 32} {a3 : Fin 4 → BitVec 32} {a8 : Fin 2 → BitVec 8} {r g q : Nat} (h1 : 2 ≤ r) (h1' : r < 34)
    (h2 : (r - 2) % 10 = g) (h3 : (r - 2) / 10 = q) : code a2 a3 a8 r = ((field 3 g (a3 (Fin.ofNat 4 q)).toNat : ℕ) : ℝ) := by
  unfold code
  rw [if_neg (by omega), if_pos (by omega), h2, h3]

/-- The composed word's fields, as the fields of the packed words they come from. -/
theorem left_field (w : Fin 4 → BitVec 32) (f : Nat) (hf : f < 8) :
    (((field 3 f (lastOf (w 0) (w 1) (w 2) (w 3)).toNat : ℕ) : ℝ) : EReal)
      = (((field 3 (if f < 2 then f else if f < 5 then 8 else 9)
          (w (Fin.ofNat 4 (if f < 2 then 3 else if f < 5 then f - 2 else f - 5))).toNat : ℕ) : ℝ) : EReal) := by
  rw [field_lastOf _ _ _ _ _ hf]
  interval_cases f <;> rfl

/-- A block's rows. -/
theorem piece_at (w2 : IVec (Sh 30 n) 32) (w3 : IVec (Sh 4 n) 32) (w8 : IVec (Sh 2 n) 8) (zero : FVec Ideal (Sh 512 n) .bf16)
    (q : Fin 32) (i : Fin 16) (d : Fin n) :
    piece w2 w3 w8 zero q (ix2 i d)
      = entry (fun q => w2 (ix2 q d)) (fun q => w3 (ix2 q d)) (fun q => w8 (ix2 q d)) (zero (ix2 (⟨16 * q + i, by omega⟩ : Fin 512) d)) (rank (16 * q + i)) := by
  have key : ∀ (x : EReal), ¬ rank (16 * q + i) < 2 →
      x = ((code (fun q => w2 (ix2 q d)) (fun q => w3 (ix2 q d)) (fun q => w8 (ix2 q d)) (rank (16 * q + i)) : ℝ) : EReal) →
      x - zero (ix2 (⟨16 * q + i, by omega⟩ : Fin 512) d)
      = entry (fun q => w2 (ix2 q d)) (fun q => w3 (ix2 q d)) (fun q => w8 (ix2 q d)) (zero (ix2 (⟨16 * q + i, by omega⟩ : Fin 512) d)) (rank (16 * q + i)) := fun x hx e => by rw [entry, if_neg hx, e]
  unfold piece
  split
  · next h =>
    obtain ⟨h1, h2, h3⟩ := rank_two ⟨q / 4, by omega⟩ ⟨q % 4, h⟩ i
    have hq : 64 * (q.val / 4) + 16 * (q.val % 4) + i = 16 * q + i := by omega
    simp only [hq] at h1 h2 h3
    rw [block_at]
    refine key _ (by omega) ?_
    rw [two_at _ _ _ _ (by omega), code_two h1 h2 h3]
    have e : (⟨8 * (q.val % 4) + i / 2, by omega⟩ : Fin 30) = Fin.ofNat 30 (8 * (q % 4) + i / 2) := Fin.ext (Nat.mod_eq_of_lt (by omega)).symm
    rw [e]
  · next h =>
    have hq : 64 * (q.val / 4) + 48 + i = 16 * q + i := by omega
    have hl : ¬ (6 ≤ q.val / 4 ∧ i.val = 11) → block (wordsLast w2 w3 (q.val / 4)) zero (16 * q.val) (by omega) (ix2 i d) =
        entry (fun q => w2 (ix2 q d)) (fun q => w3 (ix2 q d)) (fun q => w8 (ix2 q d)) (zero (ix2 (⟨16 * q + i, by omega⟩ : Fin 512) d)) (rank (16 * q + i)) := fun hn => by
      rw [block_at, last_at _ _ _ (by omega)]
      by_cases h12 : i.val < 12
      · obtain ⟨h1, h2, h3⟩ := rank_last_two ⟨q / 4, by omega⟩ i h12 hn
        simp only [hq] at h1 h2 h3
        refine key _ (by omega) ?_
        rw [if_pos h12, code_two h1 h2 h3]
      · by_cases h15 : i.val < 15
        · obtain ⟨h1, h1', h2, h3⟩ := rank_three ⟨q / 4, by omega⟩ i (by omega) h15
          simp only [hq] at h1 h1' h2 h3
          refine key _ (by omega) ?_
          rw [if_neg h12, if_pos h15, code_three h1 h1' h2 h3]
        · obtain ⟨h1, h1', h2, h3⟩ := rank_left ⟨q / 4, by omega⟩ i (by omega)
          simp only [hq] at h1 h1' h2 h3
          refine key _ (by omega) ?_
          rw [if_neg h12, if_neg h15, code_three h1 h1' h2 h3]
          exact left_field (fun q => w3 (ix2 q d)) _ (by omega)
    split
    · next h6 => exact hl (by omega)
    · next h6 =>
      rw [patch_at]
      by_cases h11 : i.val = 11
      · have h1 := rank_eight ⟨q / 4, by omega⟩ i (by show 6 ≤ q.val / 4; omega) h11
        simp only [hq] at h1
        rw [if_pos h11]
        unfold entry code
        rw [if_pos (by omega)]
        rw [if_pos (by omega)]
        have e : (⟨q.val / 4 - 6, by omega⟩ : Fin 2) = Fin.ofNat 2 (rank (16 * q + i)) := Fin.ext (by
          rw [h1]; exact (Nat.mod_eq_of_lt (by omega)).symm)
        rw [e]
      · rw [if_neg h11]
        exact hl (by omega)

/-- **The unpacked factor**, row by row: the rank's code, less the slot's zero point unless the rank is an 8-bit one. -/
theorem unpack_at (w2 : IVec (Sh 30 n) 32) (w3 : IVec (Sh 4 n) 32) (w8 : IVec (Sh 2 n) 8) (zero : FVec Ideal (Sh 512 n) .bf16)
    (s : Fin 512) (d : Fin n) :
    unpack w2 w3 w8 zero (ix2 s d)
      = entry (fun q => w2 (ix2 q d)) (fun q => w3 (ix2 q d)) (fun q => w8 (ix2 q d)) (zero (ix2 s d)) (rank s) := by
  unfold unpack
  rw [concatenate_ofFn_apply (t := Sh 512 n) (s₁ := Sh 16 n) 0 _ _ rfl 16 rfl (ix2 s d) (⟨s.val / 16, by omega⟩ : Fin 32) rfl
    (ix2 (⟨s.val % 16, Nat.mod_lt _ (by decide)⟩ : Fin 16) d) rfl (fun b hb => by
      fin_cases b
      · exact absurd rfl hb
      · rfl), piece_at]
  have e : 16 * (s.val / 16) + s.val % 16 = s.val := by omega
  simp only [e]

end Cert.Delta

end
-- ==== Proof.Words.lean ====
module

public import proofs.«01_k».proof.Proof.Unpack
public import proofs.«01_k».proof.Proof.Gen.KernelIdeal.Skeleton

/-! The four-bit weights: a chunk of 512 byte rows holds 1024 rows of the weight, two to a byte, the even row in the low
    half. A chunk's rows times their groups' scales, taken into the running product. -/

@[expose] public section

set_option maxRecDepth 65536

noncomputable section

namespace Cert.Delta

open Idealize.ShloMosaic Idealize.ShloMosaic.TcCoe Idealize.ShloMosaic.Tactic
open Cert.KernelIdeal Cert.KernelIdeal.Gen

/-- The signed four-bit number in the low (`h = 0`) or high (`h = 1`) half of a byte. -/
def nib (b : BitVec 8) (h : Nat) : ℝ :=
  if 8 ≤ b.toNat / 16 ^ h % 16 then ((b.toNat / 16 ^ h % 16 : Nat) : ℝ) - 16 else ((b.toNat / 16 ^ h % 16 : Nat) : ℝ)

/-- A byte's two halves, each carried into a half-word with its sign. -/
def halves (b : BitVec 8) : BitVec 32 :=
  IntOp.ori (IntOp.andi (IntOp.shrsi .vector (IntOp.shli .vector (b.setWidth 32) 28#32) 28#32) 65535#32)
    (IntOp.shli .vector (IntOp.shrsi .vector (IntOp.shli .vector (b.setWidth 32) 24#32) 28#32) 16#32)

theorem halves_int : ∀ (b : Fin 256) (h : Fin 2), ((halves (BitVec.ofNat 8 b)).extractLsb' (16 * h.val) 16).toInt
    = if 8 ≤ b.val / 16 ^ h.val % 16 then ((b.val / 16 ^ h.val % 16 : Nat) : Int) - 16 else ((b.val / 16 ^ h.val % 16 : Nat) : Int) := by
  decide +kernel

theorem halves_nib (b : BitVec 8) (h : Nat) (hh : h < 2) :
    ((((halves b).extractLsb' (16 * h) 16).toInt : ℝ)) = nib b h := by
  have e := halves_int ⟨b.toNat, b.isLt⟩ ⟨h, hh⟩
  rw [show BitVec.ofNat 8 b.toNat = b from BitVec.ofNat_toNat 8 b |>.trans (by simp)] at e
  rw [e]
  unfold nib
  split <;> push_cast <;> rfl

variable {F : FTy → Type} [FloatOps F]

/-- The chunk's 1024 rows of codes. -/
def codes (w : IVec S512x512 8) : IVec S1024x512 16 :=
  bitcast S1024x512 16 (fun j => halves (w j)) bitcasts_S512x512_w32_S1024x512_w16

/-- The 128 rows of group `g` of the chunk, scaled. -/
def group (w : IVec S512x512 8) (s : FVec F S1x512 .bf16) (g : Fin 8) : FVec F S128x512 .bf16 :=
  mulf (sitofp .bf16 (extractStridedSlice S128x512 ![128 * g.val, 0] (codes w) (slices (n := 512) (by omega : 128 * g.val + 128 ≤ 1024))))
    (broadcastTo S128x512 s broadcasts_S1x512_S128x512)

theorem groups (f : Fin 8 → FVec F S128x512 .bf16) :
    Shape.Concatenates ((List.ofFn fun g : Fin 8 => (⟨S128x512, f g⟩ : (s : Shape) × (s.Idx → F .bf16))).map (·.1)) S1024x512 0 := by
  rw [List.map_ofFn]
  exact concatenates_S128x512_S128x512_S128x512_S128x512_S128x512_S128x512_S128x512_S128x512_S1024x512_d0

/-- The running product with the chunk taken in. -/
def chunk (acc : FVec F S256x512 .f32) (w : IVec S512x512 8) (s : Fin 8 → FVec F S1x512 .bf16) (x : FVec F S256x1024 .bf16) :
    FVec F S256x512 .f32 :=
  addf acc (matmul dot_S256x1024_S1024x512_S256x512_1_0_0_1_n_n none (shapeCast S256x1024 x shapeCasts_S256x1024_S256x1024)
    (concatenate S1024x512 0 (List.ofFn fun g : Fin 8 => ⟨S128x512, group w (s g) g⟩) (groups _))
    (constant S256x512 .f32 0x00000000#32))

theorem group_at (w : IVec S512x512 8) (s : FVec Ideal S1x512 .bf16) (g : Fin 8) (j : Fin 128) (o : Fin 512) :
    group w s g (ix2 j o) = ((nib (w (ix2 (⟨(128 * g + j) / 2, by omega⟩ : Fin 512) o)) ((128 * g + j) % 2) : ℝ) : EReal) * s (ix2 0 o) := by
  have e1 : extractStridedSlice S128x512 ![128 * g.val, 0] (codes w) (slices (n := 512) (by omega : 128 * g.val + 128 ≤ 1024)) (ix2 j o)
      = (halves (w (ix2 (⟨(128 * g + j) / 2, by omega⟩ : Fin 512) o))).extractLsb' (16 * ((128 * g + j) % 2)) 16 :=
    (slice_at (by omega) (codes w) j o).trans (half_at (r := 512) (fun j => halves (w j)) ⟨128 * g + j, by omega⟩ o)
  have e2 : broadcastTo S128x512 s broadcasts_S1x512_S128x512 (ix2 j o) = s (ix2 0 o) := by
    refine congrArg s ?_
    funext a; fin_cases a <;> rfl
  show ((((extractStridedSlice S128x512 ![128 * g.val, 0] (codes w) (slices (n := 512) (by omega : 128 * g.val + 128 ≤ 1024)) (ix2 j o)).toInt : ℝ)) : EReal)
    * broadcastTo S128x512 s broadcasts_S1x512_S128x512 (ix2 j o) = _
  rw [e1, e2, halves_nib _ _ (Nat.mod_lt _ (by decide))]

/-- The chunk's product at an index: the sum over the chunk's 1024 rows. -/
theorem chunk_at (acc : FVec Ideal S256x512 .f32) (w : IVec S512x512 8) (s : Fin 8 → FVec Ideal S1x512 .bf16) (x : FVec Ideal S256x1024 .bf16)
    (b : Fin 256) (o : Fin 512) :
    chunk acc w s x (ix2 b o) = acc (ix2 b o) + ∑ k : Fin 1024, x (ix2 b k)
      * (((nib (w (ix2 (⟨k / 2, by omega⟩ : Fin 512) o)) (k % 2) : ℝ) : EReal) * s (⟨k / 128, by omega⟩ : Fin 8) (ix2 0 o)) := by
  have e : ∀ k : Fin 1024, concatenate S1024x512 0 (List.ofFn fun g : Fin 8 => ⟨S128x512, group w (s g) g⟩) (groups _) (ix2 k o)
      = ((nib (w (ix2 (⟨k / 2, by omega⟩ : Fin 512) o)) (k % 2) : ℝ) : EReal) * s (⟨k / 128, by omega⟩ : Fin 8) (ix2 0 o) := by
    intro k
    rw [concatenate_ofFn_apply (t := S1024x512) (s₁ := S128x512) 0 _ _ rfl 128 rfl (ix2 k o) (⟨k.val / 128, by omega⟩ : Fin 8) rfl
      (ix2 (⟨k.val % 128, Nat.mod_lt _ (by decide)⟩ : Fin 128) o) rfl (fun b hb => by
        fin_cases b
        · exact absurd rfl hb
        · rfl), group_at]
    have e : 128 * (k.val / 128) + k.val % 128 = k.val := by omega
    simp only [e]
  unfold chunk
  generalize concatenate S1024x512 0 (List.ofFn fun g : Fin 8 => ⟨S128x512, group w (s g) g⟩) (groups _) = W at e ⊢
  simp only [← e]
  pointwise []

/-! ### The sixteen chunks -/

section Chunks
variable (acc : FVec F S256x512 .f32) (w : Vec F S512x512 .i8) (s : Fin 8 → FVec F S1x512 .bf16) (x : FVec F S256x1024 .bf16)

/-- A chunk whose eight groups are given one by one. -/
theorem chunk_eq (g0 g1 g2 g3 g4 g5 g6 g7 : FVec F S128x512 .bf16)
    (h0 : g0 = group w (s 0) 0) (h1 : g1 = group w (s 1) 1) (h2 : g2 = group w (s 2) 2) (h3 : g3 = group w (s 3) 3)
    (h4 : g4 = group w (s 4) 4) (h5 : g5 = group w (s 5) 5) (h6 : g6 = group w (s 6) 6) (h7 : g7 = group w (s 7) 7) :
    addf acc (matmul dot_S256x1024_S1024x512_S256x512_1_0_0_1_n_n none (shapeCast S256x1024 x shapeCasts_S256x1024_S256x1024)
      (concatenate S1024x512 0 [⟨S128x512, g0⟩, ⟨S128x512, g1⟩, ⟨S128x512, g2⟩, ⟨S128x512, g3⟩, ⟨S128x512, g4⟩, ⟨S128x512, g5⟩,
        ⟨S128x512, g6⟩, ⟨S128x512, g7⟩]
        concatenates_S128x512_S128x512_S128x512_S128x512_S128x512_S128x512_S128x512_S128x512_S1024x512_d0)
      (constant S256x512 .f32 0x00000000#32)) = chunk acc w s x := by
  subst h0 h1 h2 h3 h4 h5 h6 h7
  rfl

theorem part_0 :
    k0_pay176 acc (k0_pay168 (k0_pay165 w) (k0_pay166 w) 28#32 (s 0)) (k0_pay169 (k0_pay165 w) (k0_pay166 w) 28#32 (s 1))
    (k0_pay170 (k0_pay165 w) (k0_pay166 w) 28#32 (s 2)) (k0_pay171 (k0_pay165 w) (k0_pay166 w) 28#32 (s 3)) (k0_pay172
    (k0_pay165 w) (k0_pay166 w) 28#32 (s 4)) (k0_pay173 (k0_pay165 w) (k0_pay166 w) 28#32 (s 5)) (k0_pay174 (k0_pay165 w)
    (k0_pay166 w) 28#32 (s 6)) (k0_pay175 (k0_pay165 w) (k0_pay166 w) 28#32) (s 7) x
      = chunk acc w s x :=
  chunk_eq acc w s x _ _ _ _ _ _ _ _ rfl rfl rfl rfl rfl rfl rfl rfl

theorem part_1 :
    k0_pay182 acc (k0_pay177 w) (k0_pay178 w (s 0)) (k0_pay179 w (s 1)) (k0_pay180 w (s 2)) (k0_pay181 w) (s 3) (s 4) (s 5) (s
    6) (s 7) x
      = chunk acc w s x :=
  chunk_eq acc w s x _ _ _ _ _ _ _ _ rfl rfl rfl rfl rfl rfl rfl rfl

theorem part_2 :
    k0_pay188 acc (k0_pay187 (k0_pay184 w) (k0_pay185 w) k0_pay186 (s 0) (s 1) (s 2) (s 3) (s 4) (s 5) (s 6) (s 7)) x
      = chunk acc w s x :=
  chunk_eq acc w s x _ _ _ _ _ _ _ _ rfl rfl rfl rfl rfl rfl rfl rfl

theorem part_3 :
    k0_pay195 acc (k0_pay189 w) (k0_pay190 w (s 0)) (k0_pay191 w (s 1)) (k0_pay192 w (s 2)) (k0_pay193 w (s 3)) (k0_pay194 w) (s
    4) (s 5) (s 6) (s 7) x
      = chunk acc w s x :=
  chunk_eq acc w s x _ _ _ _ _ _ _ _ rfl rfl rfl rfl rfl rfl rfl rfl

theorem part_4 :
    k0_pay200 acc (k0_pay198 (k0_pay196 w) (k0_pay197 w) (s 0) (s 1) (s 2) (s 3) (s 4) (s 5) (s 6) (s 7)) (k0_pay199 x)
      = chunk acc w s x :=
  chunk_eq acc w s x _ _ _ _ _ _ _ _ rfl rfl rfl rfl rfl rfl rfl rfl

theorem part_5 :
    k0_pay207 acc (k0_pay201 w) (k0_pay202 w (s 0)) (k0_pay203 w (s 1)) (k0_pay204 w (s 2)) (k0_pay205 w (s 3)) (k0_pay206 w) (s
    4) (s 5) (s 6) (s 7) x
      = chunk acc w s x :=
  chunk_eq acc w s x _ _ _ _ _ _ _ _ rfl rfl rfl rfl rfl rfl rfl rfl

theorem part_6 :
    k0_pay210 acc (k0_pay208 w) (k0_pay209 w) (s 0) (s 1) (s 2) (s 3) (s 4) (s 5) (s 6) (s 7) x
      = chunk acc w s x :=
  chunk_eq acc w s x _ _ _ _ _ _ _ _ rfl rfl rfl rfl rfl rfl rfl rfl

theorem part_7 :
    k0_pay218 acc (k0_pay211 w) (k0_pay212 w (s 0)) (k0_pay213 w (s 1)) (k0_pay214 w (s 2)) (k0_pay215 w (s 3)) (k0_pay216 w (s
    4)) (k0_pay217 w) (s 5) (s 6) (s 7) x
      = chunk acc w s x :=
  chunk_eq acc w s x _ _ _ _ _ _ _ _ rfl rfl rfl rfl rfl rfl rfl rfl

theorem part_8 :
    k0_pay222 acc (k0_pay219 w) (k0_pay220 w (s 0)) (k0_pay221 w) (s 1) (s 2) (s 3) (s 4) (s 5) (s 6) (s 7) x
      = chunk acc w s x :=
  chunk_eq acc w s x _ _ _ _ _ _ _ _ rfl rfl rfl rfl rfl rfl rfl rfl

theorem part_9 :
    k0_pay232 acc (k0_pay224 (k0_pay223 w) 28#32) (k0_pay225 (k0_pay223 w) 28#32 (s 0)) (k0_pay226 (k0_pay223 w) 28#32 (s 1))
    (k0_pay227 (k0_pay223 w) 28#32 (s 2)) (k0_pay228 (k0_pay223 w) 28#32 (s 3)) (k0_pay229 (k0_pay223 w) 28#32 (s 4)) (k0_pay230
    (k0_pay223 w) 28#32) (k0_pay231 (s 5)) (s 6) (s 7) x
      = chunk acc w s x :=
  chunk_eq acc w s x _ _ _ _ _ _ _ _ rfl rfl rfl rfl rfl rfl rfl rfl

theorem part_10 :
    k0_pay237 acc (k0_pay233 w) (k0_pay234 w (s 0)) (k0_pay235 w) (k0_pay236 (s 1)) (s 2) (s 3) (s 4) (s 5) (s 6) (s 7) x
      = chunk acc w s x :=
  chunk_eq acc w s x _ _ _ _ _ _ _ _ rfl rfl rfl rfl rfl rfl rfl rfl

theorem part_11 :
    k0_pay249 acc (k0_pay241 (k0_pay238 w) (k0_pay239 w) k0_pay240) (k0_pay242 (k0_pay238 w) (k0_pay239 w) k0_pay240 (s 0))
    (k0_pay243 (k0_pay238 w) (k0_pay239 w) k0_pay240 (s 1)) (k0_pay244 (k0_pay238 w) (k0_pay239 w) k0_pay240 (s 2)) (k0_pay245
    (k0_pay238 w) (k0_pay239 w) k0_pay240 (s 3)) (k0_pay246 (k0_pay238 w) (k0_pay239 w) k0_pay240 (s 4)) (k0_pay247 (k0_pay238
    w) (k0_pay239 w) k0_pay240 (s 5)) (k0_pay248 (k0_pay238 w) (k0_pay239 w) k0_pay240) (s 6) (s 7) x
      = chunk acc w s x :=
  chunk_eq acc w s x _ _ _ _ _ _ _ _ rfl rfl rfl rfl rfl rfl rfl rfl

theorem part_12 :
    k0_pay254 acc (k0_pay250 w) (k0_pay251 w (s 0)) (k0_pay252 w (s 1)) (k0_pay253 w) (s 2) (s 3) (s 4) (s 5) (s 6) (s 7) x
      = chunk acc w s x :=
  chunk_eq acc w s x _ _ _ _ _ _ _ _ rfl rfl rfl rfl rfl rfl rfl rfl

theorem part_13 :
    k0_pay265 acc (k0_pay257 (k0_pay255 w) (k0_pay256 w)) (k0_pay258 (k0_pay255 w) (k0_pay256 w) (s 0)) (k0_pay259 (k0_pay255 w)
    (k0_pay256 w) (s 1)) (k0_pay260 (k0_pay255 w) (k0_pay256 w) (s 2)) (k0_pay261 (k0_pay255 w) (k0_pay256 w) (s 3)) (k0_pay262
    (k0_pay255 w) (k0_pay256 w) (s 4)) (k0_pay263 (k0_pay255 w) (k0_pay256 w) (s 5)) (k0_pay264 (k0_pay255 w) (k0_pay256 w) (s
    6)) (s 7) x
      = chunk acc w s x :=
  chunk_eq acc w s x _ _ _ _ _ _ _ _ rfl rfl rfl rfl rfl rfl rfl rfl

theorem part_14 :
    k0_pay270 acc (k0_pay266 w) (k0_pay267 w (s 0)) (k0_pay268 w (s 1)) (k0_pay269 w (s 2)) (s 3) (s 4) (s 5) (s 6) (s 7) x
      = chunk acc w s x :=
  chunk_eq acc w s x _ _ _ _ _ _ _ _ rfl rfl rfl rfl rfl rfl rfl rfl

/-- The last chunk, narrowed as it is stored. -/
theorem part_15 :
    k0_pay1 acc (k0_pay275 (k0_pay272 w) (k0_pay273 w) 28#32 (s 0)) (k0_pay276 (k0_pay272 w) (k0_pay273 w) 28#32 (s 1))
    (k0_pay277 (k0_pay272 w) (k0_pay273 w) 28#32 (s 2)) (k0_pay278 (k0_pay272 w) (k0_pay273 w) 28#32 (s 3)) (k0_pay279
    (k0_pay272 w) (k0_pay273 w) 28#32 (s 4)) (k0_pay280 (k0_pay272 w) (k0_pay273 w) 28#32 (s 5)) (k0_pay281 (k0_pay272 w)
    (k0_pay273 w) 28#32 (s 6)) (k0_pay282 (k0_pay272 w) (k0_pay273 w) 28#32) (s 7) x
      = truncf .bf16 (chunk acc w s x) bitsLt_bf16_f32 :=
  congrArg (fun y => truncf .bf16 y bitsLt_bf16_f32) (chunk_eq acc w s x _ _ _ _ _ _ _ _ rfl rfl rfl rfl rfl rfl rfl rfl)

end Chunks

/-- The first `n` chunks taken in. -/
def chain (acc : FVec F S256x512 .f32) (W : Nat → IVec S512x512 8) (S : Nat → FVec F S1x512 .bf16) (X : Nat → FVec F S256x1024 .bf16) :
    Nat → FVec F S256x512 .f32
  | 0 => acc
  | n + 1 => chunk (chain acc W S X n) (W n) (fun g => S (8 * n + g.val)) (X n)

theorem chain_at (acc : FVec Ideal S256x512 .f32) (W : Nat → IVec S512x512 8) (S : Nat → FVec Ideal S1x512 .bf16)
    (X : Nat → FVec Ideal S256x1024 .bf16) (b : Fin 256) (o : Fin 512) : ∀ n : Nat,
    chain acc W S X n (ix2 b o) = acc (ix2 b o) + ∑ c : Fin n, ∑ k : Fin 1024, X c (ix2 b k)
      * (((nib (W c (ix2 (⟨k / 2, by omega⟩ : Fin 512) o)) (k % 2) : ℝ) : EReal) * S (8 * c + k / 128) (ix2 0 o))
  | 0 => by simp [chain]
  | n + 1 => by
    show chunk (chain acc W S X n) (W n) (fun g => S (8 * n + g.val)) (X n) (ix2 b o) = _
    rw [chunk_at, chain_at acc W S X b o n, Fin.sum_univ_castSucc (n := n), ← add_assoc]
    rfl

end Cert.Delta

end
-- ==== Proof.Mixed.lean ====
module

public import proofs.«01_k».proof.Proof.Words

/-! The adapter's second factor: unpacked at 512 columns and multiplied by the adapter's coordinates. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

/-- The coordinates `t` times the unpacked second factor. -/
def mixed (t : FVec F S256x512 .f32) (w2 : IVec S30x512 32) (w3 : IVec S4x512 32) (w8 : IVec S2x512 8) (zu : FVec F S512x128 .bf16) :
    FVec F S256x512 .f32 :=
  matmul dot_S256x512_S512x512_S256x512_1_0_0_1_n_n none (truncf .bf16 t bitsLt_bf16_f32)
    (unpack (n := 512) w2 w3 w8 (k0_pay108 zu)) (constant S256x512 .f32 0x00000000#32)

theorem mixed_eq (t : Vec F S256x512 .f32) (w2 : Vec F S30x512 .i32) (w3 : Vec F S4x512 .i32) (w8 : Vec F S2x512 .i8)
    (zu : Vec F S512x128 .bf16) :
    k0_pay163 (k0_pay108 zu) (k0_pay119 (k0_pay105 w2) (k0_pay109 w3) (k0_pay110 w3) (k0_pay111 w3) (k0_pay113 (k0_pay110 w3)
    (k0_pay111 w3) (k0_pay112 w3))) k0_pay120 k0_pay121 (iota .tc S16x512 32 [0] iota_S16x512_d0_w32) (k0_pay122 (k0_pay107 w8))
    (k0_pay124 (k0_pay108 zu) (k0_pay123 (k0_pay105 w2))) (k0_pay125 (k0_pay105 w2) (k0_pay108 zu)) (k0_pay126 (k0_pay105 w2)
    (k0_pay108 zu)) (k0_pay127 (k0_pay108 zu) (k0_pay118 (k0_pay114 (k0_pay105 w2)) (k0_pay115 (k0_pay109 w3) (k0_pay110 w3))
    (k0_pay116 (k0_pay111 w3)) (k0_pay117 (k0_pay110 w3) (k0_pay111 w3) (k0_pay112 w3)) 16#32) k0_pay120 k0_pay121) (k0_pay130
    (k0_pay108 zu) (k0_pay128 (k0_pay105 w2)) k0_pay129) (k0_pay131 (k0_pay105 w2) (k0_pay108 zu)) (k0_pay132 (k0_pay105 w2)
    (k0_pay108 zu)) (k0_pay133 (k0_pay108 zu) (k0_pay118 (k0_pay114 (k0_pay105 w2)) (k0_pay115 (k0_pay109 w3) (k0_pay110 w3))
    (k0_pay116 (k0_pay111 w3)) (k0_pay117 (k0_pay110 w3) (k0_pay111 w3) (k0_pay112 w3)) 16#32) k0_pay120 k0_pay121) (k0_pay135
    (k0_pay108 zu) (k0_pay134 (k0_pay105 w2)) 4#32) (k0_pay136 (k0_pay105 w2) (k0_pay108 zu)) (k0_pay137 (k0_pay105 w2)
    (k0_pay108 zu)) (k0_pay139 (k0_pay108 zu) (k0_pay138 (k0_pay118 (k0_pay114 (k0_pay105 w2)) (k0_pay115 (k0_pay109 w3)
    (k0_pay110 w3)) (k0_pay116 (k0_pay111 w3)) (k0_pay117 (k0_pay110 w3) (k0_pay111 w3) (k0_pay112 w3)) 16#32) k0_pay120
    k0_pay121)) (k0_pay140 (k0_pay105 w2) (k0_pay108 zu)) (k0_pay141 (k0_pay105 w2) (k0_pay108 zu)) (k0_pay142 (k0_pay105 w2)
    (k0_pay108 zu)) (k0_pay144 (k0_pay108 zu) (k0_pay143 (k0_pay118 (k0_pay114 (k0_pay105 w2)) (k0_pay115 (k0_pay109 w3)
    (k0_pay110 w3)) (k0_pay116 (k0_pay111 w3)) (k0_pay117 (k0_pay110 w3) (k0_pay111 w3) (k0_pay112 w3)) 16#32) k0_pay120
    k0_pay121)) (k0_pay145 (k0_pay105 w2) (k0_pay108 zu)) (k0_pay146 (k0_pay105 w2) (k0_pay108 zu)) (k0_pay147 (k0_pay105 w2)
    (k0_pay108 zu)) (k0_pay149 (k0_pay108 zu) k0_pay121 (k0_pay148 (k0_pay119 (k0_pay105 w2) (k0_pay109 w3) (k0_pay110 w3)
    (k0_pay111 w3) (k0_pay113 (k0_pay110 w3) (k0_pay111 w3) (k0_pay112 w3))) k0_pay120)) (k0_pay150 (k0_pay105 w2) (k0_pay108
    zu)) (k0_pay151 (k0_pay105 w2) (k0_pay108 zu)) (k0_pay152 (k0_pay105 w2) (k0_pay108 zu)) (k0_pay153 (k0_pay108 zu)
    (k0_pay119 (k0_pay105 w2) (k0_pay109 w3) (k0_pay110 w3) (k0_pay111 w3) (k0_pay113 (k0_pay110 w3) (k0_pay111 w3) (k0_pay112
    w3))) k0_pay120 k0_pay121 3#32 10#32) (k0_pay154 (k0_pay105 w2) (k0_pay108 zu)) (k0_pay155 (k0_pay105 w2) (k0_pay108 zu))
    (k0_pay157 (k0_pay108 zu) (k0_pay156 (k0_pay105 w2))) (k0_pay158 (k0_pay108 zu) (k0_pay119 (k0_pay105 w2) (k0_pay109 w3)
    (k0_pay110 w3) (k0_pay111 w3) (k0_pay113 (k0_pay110 w3) (k0_pay111 w3) (k0_pay112 w3))) k0_pay120 k0_pay121 (iota .tc
    S16x512 32 [0] iota_S16x512_d0_w32) (k0_pay122 (k0_pay107 w8))) (k0_pay159 (k0_pay105 w2) (k0_pay108 zu)) (k0_pay160
    (k0_pay105 w2) (k0_pay108 zu)) (k0_pay161 (k0_pay105 w2)) k0_pay162 t
      = mixed t (k0_pay105 w2) (k0_pay106 w3) (k0_pay107 w8) zu := by
  unfold k0_pay163 mixed unpack
  dsimp only
  refine congrArg (fun u => matmul dot_S256x512_S512x512_S256x512_1_0_0_1_n_n none (truncf .bf16 t bitsLt_bf16_f32) u
    (constant S256x512 .f32 0x00000000#32)) ?_
  refine pile_eq (n := 512) (piece (n := 512) _ _ _ _) _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals rfl

theorem mixed_at (t : FVec Ideal S256x512 .f32) (w2 : IVec S30x512 32) (w3 : IVec S4x512 32) (w8 : IVec S2x512 8)
    (zu : FVec Ideal S512x128 .bf16) (b : Fin 256) (o : Fin 512) :
    mixed t w2 w3 w8 zu (ix2 b o) = ∑ s : Fin 512, t (ix2 b s)
      * entry (fun q => w2 (ix2 q o)) (fun q => w3 (ix2 q o)) (fun q => w8 (ix2 q o)) (zu (ix2 s ⟨o % 128, by omega⟩)) (rank s) := by
  have e : ∀ s : Fin 512, unpack (F := Ideal) (n := 512) w2 w3 w8 (k0_pay108 zu) (ix2 s o)
      = entry (fun q => w2 (ix2 q o)) (fun q => w3 (ix2 q o)) (fun q => w8 (ix2 q o)) (zu (ix2 s ⟨o % 128, by omega⟩)) (rank s) := by
    intro s
    rw [unpack_at]
    refine congrArg (fun z => entry _ _ _ z _) ?_
    unfold k0_pay108
    pointwise []
    split_ifs <;> exact congrArg (fun c => zu (ix2 s c)) (Fin.ext (by show _ = o.val % 128; dsimp only; omega))
  simp only [← e]
  unfold mixed
  generalize unpack (F := Ideal) (n := 512) w2 w3 w8 (k0_pay108 zu) = U
  pointwise []

end Cert.Delta

end
-- ==== Proof.Point.lean ====
module

public import proofs.«01_k».proof.Proof.Mixed
public import proofs.«01_k».proof.Proof.Gen.KernelIdeal.Value
public import Idealize.ShloMosaic.Lib.VecWindow

/-! What a grid point stores into its output tile, as a function of the blocks it reads and of the two scratch buffers. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

theorem hz2 : (![0, 0] : Fin 2 → Nat) = fun _ => 0 := by
  funext a; fin_cases a <;> rfl

/-! ### The loads of the sixteen chunks -/

theorem rowsW (n : Nat) : ∀ a, (![512 * (n % 16), 0] : Fin 2 → Nat) a + S512x512.size a ≤ S8192x512.size a := by
  intro a; fin_cases a
  · show 512 * (n % 16) + 512 ≤ 8192; omega
  · exact Nat.le_refl 512

theorem rowsS (n : Nat) : ∀ a, (![n % 128, 0] : Fin 2 → Nat) a + S1x512.size a ≤ S128x512.size a := by
  intro a; fin_cases a
  · show n % 128 + 1 ≤ 128; omega
  · exact Nat.le_refl 512

theorem colsX (n : Nat) : ∀ a, (![0, 1024 * (n % 16)] : Fin 2 → Nat) a + S256x1024.size a ≤ S256x16384.size a := by
  intro a; fin_cases a
  · exact Nat.le_refl 256
  · show 1024 * (n % 16) + 1024 ≤ 16384; omega

/-- Chunk `n`'s byte rows, scale row `n`, chunk `n`'s columns of `x`. -/
def rectW (n : Nat) : Rect S8192x512 := Rect.unit ![512 * (n % 16), 0] S512x512.size (rowsW n)
def rectS (n : Nat) : Rect S128x512 := Rect.unit ![n % 128, 0] S1x512.size (rowsS n)
def rectX (n : Nat) : Rect S256x16384 := Rect.unit ![0, 1024 * (n % 16)] S256x1024.size (colsX n)

theorem ldW (x : Vec F S8192x512 .i8) (n : Nat) (hn : n < 16) (r o : Fin 512) :
    View.ld x (rectW n) (ix2 r o) = x (ix2 (⟨512 * n + r, by omega⟩ : Fin 8192) o) :=
  View.ld_unit_apply_of x _ _ _ _ _ (fun a => by
    fin_cases a
    · show 512 * n + r.val = 512 * (n % 16) + r.val; omega
    · exact (Nat.zero_add _).symm)

theorem ldS (x : Vec F S128x512 .bf16) (n : Nat) (hn : n < 128) (o : Fin 512) :
    View.ld x (rectS n) (ix2 0 o) = x (ix2 (⟨n, hn⟩ : Fin 128) o) :=
  View.ld_unit_apply_of x _ _ _ _ _ (fun a => by
    fin_cases a
    · show n = n % 128 + 0; omega
    · exact (Nat.zero_add _).symm)

theorem ldX (x : Vec F S256x16384 .bf16) (n : Nat) (hn : n < 16) (b : Fin 256) (k : Fin 1024) :
    View.ld x (rectX n) (ix2 b k) = x (ix2 b (⟨1024 * n + k, by omega⟩ : Fin 16384)) :=
  View.ld_unit_apply_of x _ _ _ _ _ (fun a => by
    fin_cases a
    · exact (Nat.zero_add _).symm
    · show 1024 * n + k.val = 1024 * (n % 16) + k.val; omega)

/-! ### The sixteen chunks of the body -/

section Whole
variable (acc : FVec F S256x512 .f32) (W : Nat → Vec F S512x512 .i8) (S : Nat → FVec F S1x512 .bf16) (X : Nat → FVec F S256x1024 .bf16)

theorem step {a : FVec F S256x512 .f32} {n : Nat} (h : a = chain acc W S X n) :
    chunk a (W n) (fun g => S (8 * n + g.val)) (X n) = chain acc W S X (n + 1) := by
  rw [h]; rfl

/-- The body's sixteen chunks, nested as the program nests them. -/
theorem whole_eq :
    k0_pay1 (k0_pay270 (k0_pay265 (k0_pay254 (k0_pay249 (k0_pay237 (k0_pay232 (k0_pay222 (k0_pay218 (k0_pay210 (k0_pay207
    (k0_pay200 (k0_pay195 (k0_pay188 (k0_pay182 (k0_pay176 acc (k0_pay168 (k0_pay165 (W 0)) (k0_pay166 (W 0)) 28#32 (S 0))
    (k0_pay169 (k0_pay165 (W 0)) (k0_pay166 (W 0)) 28#32 (S 1)) (k0_pay170 (k0_pay165 (W 0)) (k0_pay166 (W 0)) 28#32 (S 2))
    (k0_pay171 (k0_pay165 (W 0)) (k0_pay166 (W 0)) 28#32 (S 3)) (k0_pay172 (k0_pay165 (W 0)) (k0_pay166 (W 0)) 28#32 (S 4))
    (k0_pay173 (k0_pay165 (W 0)) (k0_pay166 (W 0)) 28#32 (S 5)) (k0_pay174 (k0_pay165 (W 0)) (k0_pay166 (W 0)) 28#32 (S 6))
    (k0_pay175 (k0_pay165 (W 0)) (k0_pay166 (W 0)) 28#32) (S 7) (X 0)) (k0_pay177 (W 1)) (k0_pay178 (W 1) (S 8)) (k0_pay179 (W
    1) (S 9)) (k0_pay180 (W 1) (S 10)) (k0_pay181 (W 1)) (S 11) (S 12) (S 13) (S 14) (S 15) (X 1)) (k0_pay187 (k0_pay184 (W 2))
    (k0_pay185 (W 2)) k0_pay186 (S 16) (S 17) (S 18) (S 19) (S 20) (S 21) (S 22) (S 23)) (X 2)) (k0_pay189 (W 3)) (k0_pay190 (W
    3) (S 24)) (k0_pay191 (W 3) (S 25)) (k0_pay192 (W 3) (S 26)) (k0_pay193 (W 3) (S 27)) (k0_pay194 (W 3)) (S 28) (S 29) (S 30)
    (S 31) (X 3)) (k0_pay198 (k0_pay196 (W 4)) (k0_pay197 (W 4)) (S 32) (S 33) (S 34) (S 35) (S 36) (S 37) (S 38) (S 39))
    (k0_pay199 (X 4))) (k0_pay201 (W 5)) (k0_pay202 (W 5) (S 40)) (k0_pay203 (W 5) (S 41)) (k0_pay204 (W 5) (S 42)) (k0_pay205
    (W 5) (S 43)) (k0_pay206 (W 5)) (S 44) (S 45) (S 46) (S 47) (X 5)) (k0_pay208 (W 6)) (k0_pay209 (W 6)) (S 48) (S 49) (S 50)
    (S 51) (S 52) (S 53) (S 54) (S 55) (X 6)) (k0_pay211 (W 7)) (k0_pay212 (W 7) (S 56)) (k0_pay213 (W 7) (S 57)) (k0_pay214 (W
    7) (S 58)) (k0_pay215 (W 7) (S 59)) (k0_pay216 (W 7) (S 60)) (k0_pay217 (W 7)) (S 61) (S 62) (S 63) (X 7)) (k0_pay219 (W 8))
    (k0_pay220 (W 8) (S 64)) (k0_pay221 (W 8)) (S 65) (S 66) (S 67) (S 68) (S 69) (S 70) (S 71) (X 8)) (k0_pay224 (k0_pay223 (W
    9)) 28#32) (k0_pay225 (k0_pay223 (W 9)) 28#32 (S 72)) (k0_pay226 (k0_pay223 (W 9)) 28#32 (S 73)) (k0_pay227 (k0_pay223 (W
    9)) 28#32 (S 74)) (k0_pay228 (k0_pay223 (W 9)) 28#32 (S 75)) (k0_pay229 (k0_pay223 (W 9)) 28#32 (S 76)) (k0_pay230
    (k0_pay223 (W 9)) 28#32) (k0_pay231 (S 77)) (S 78) (S 79) (X 9)) (k0_pay233 (W 10)) (k0_pay234 (W 10) (S 80)) (k0_pay235 (W
    10)) (k0_pay236 (S 81)) (S 82) (S 83) (S 84) (S 85) (S 86) (S 87) (X 10)) (k0_pay241 (k0_pay238 (W 11)) (k0_pay239 (W 11))
    k0_pay240) (k0_pay242 (k0_pay238 (W 11)) (k0_pay239 (W 11)) k0_pay240 (S 88)) (k0_pay243 (k0_pay238 (W 11)) (k0_pay239 (W
    11)) k0_pay240 (S 89)) (k0_pay244 (k0_pay238 (W 11)) (k0_pay239 (W 11)) k0_pay240 (S 90)) (k0_pay245 (k0_pay238 (W 11))
    (k0_pay239 (W 11)) k0_pay240 (S 91)) (k0_pay246 (k0_pay238 (W 11)) (k0_pay239 (W 11)) k0_pay240 (S 92)) (k0_pay247
    (k0_pay238 (W 11)) (k0_pay239 (W 11)) k0_pay240 (S 93)) (k0_pay248 (k0_pay238 (W 11)) (k0_pay239 (W 11)) k0_pay240) (S 94)
    (S 95) (X 11)) (k0_pay250 (W 12)) (k0_pay251 (W 12) (S 96)) (k0_pay252 (W 12) (S 97)) (k0_pay253 (W 12)) (S 98) (S 99) (S
    100) (S 101) (S 102) (S 103) (X 12)) (k0_pay257 (k0_pay255 (W 13)) (k0_pay256 (W 13))) (k0_pay258 (k0_pay255 (W 13))
    (k0_pay256 (W 13)) (S 104)) (k0_pay259 (k0_pay255 (W 13)) (k0_pay256 (W 13)) (S 105)) (k0_pay260 (k0_pay255 (W 13))
    (k0_pay256 (W 13)) (S 106)) (k0_pay261 (k0_pay255 (W 13)) (k0_pay256 (W 13)) (S 107)) (k0_pay262 (k0_pay255 (W 13))
    (k0_pay256 (W 13)) (S 108)) (k0_pay263 (k0_pay255 (W 13)) (k0_pay256 (W 13)) (S 109)) (k0_pay264 (k0_pay255 (W 13))
    (k0_pay256 (W 13)) (S 110)) (S 111) (X 13)) (k0_pay266 (W 14)) (k0_pay267 (W 14) (S 112)) (k0_pay268 (W 14) (S 113))
    (k0_pay269 (W 14) (S 114)) (S 115) (S 116) (S 117) (S 118) (S 119) (X 14)) (k0_pay275 (k0_pay272 (W 15)) (k0_pay273 (W 15))
    28#32 (S 120)) (k0_pay276 (k0_pay272 (W 15)) (k0_pay273 (W 15)) 28#32 (S 121)) (k0_pay277 (k0_pay272 (W 15)) (k0_pay273 (W
    15)) 28#32 (S 122)) (k0_pay278 (k0_pay272 (W 15)) (k0_pay273 (W 15)) 28#32 (S 123)) (k0_pay279 (k0_pay272 (W 15)) (k0_pay273
    (W 15)) 28#32 (S 124)) (k0_pay280 (k0_pay272 (W 15)) (k0_pay273 (W 15)) 28#32 (S 125)) (k0_pay281 (k0_pay272 (W 15))
    (k0_pay273 (W 15)) 28#32 (S 126)) (k0_pay282 (k0_pay272 (W 15)) (k0_pay273 (W 15)) 28#32) (S 127) (X 15)
      = truncf .bf16 (chain acc W S X 16) bitsLt_bf16_f32 := by
  have h0 := (part_0 acc (W 0) (fun g => S (8 * 0 + g.val)) (X 0)).trans (step acc W S X (n := 0) rfl)
  have h1 := (part_1 _ (W 1) (fun g => S (8 * 1 + g.val)) (X 1)).trans (step acc W S X (n := 1) h0)
  have h2 := (part_2 _ (W 2) (fun g => S (8 * 2 + g.val)) (X 2)).trans (step acc W S X (n := 2) h1)
  have h3 := (part_3 _ (W 3) (fun g => S (8 * 3 + g.val)) (X 3)).trans (step acc W S X (n := 3) h2)
  have h4 := (part_4 _ (W 4) (fun g => S (8 * 4 + g.val)) (X 4)).trans (step acc W S X (n := 4) h3)
  have h5 := (part_5 _ (W 5) (fun g => S (8 * 5 + g.val)) (X 5)).trans (step acc W S X (n := 5) h4)
  have h6 := (part_6 _ (W 6) (fun g => S (8 * 6 + g.val)) (X 6)).trans (step acc W S X (n := 6) h5)
  have h7 := (part_7 _ (W 7) (fun g => S (8 * 7 + g.val)) (X 7)).trans (step acc W S X (n := 7) h6)
  have h8 := (part_8 _ (W 8) (fun g => S (8 * 8 + g.val)) (X 8)).trans (step acc W S X (n := 8) h7)
  have h9 := (part_9 _ (W 9) (fun g => S (8 * 9 + g.val)) (X 9)).trans (step acc W S X (n := 9) h8)
  have h10 := (part_10 _ (W 10) (fun g => S (8 * 10 + g.val)) (X 10)).trans (step acc W S X (n := 10) h9)
  have h11 := (part_11 _ (W 11) (fun g => S (8 * 11 + g.val)) (X 11)).trans (step acc W S X (n := 11) h10)
  have h12 := (part_12 _ (W 12) (fun g => S (8 * 12 + g.val)) (X 12)).trans (step acc W S X (n := 12) h11)
  have h13 := (part_13 _ (W 13) (fun g => S (8 * 13 + g.val)) (X 13)).trans (step acc W S X (n := 13) h12)
  have h14 := (part_14 _ (W 14) (fun g => S (8 * 14 + g.val)) (X 14)).trans (step acc W S X (n := 14) h13)
  exact (part_15 _ (W 15) (fun g => S (8 * 15 + g.val)) (X 15)).trans
    (congrArg (fun y => truncf .bf16 y bitsLt_bf16_f32) (step acc W S X (n := 15) h14))

end Whole

/-- What a grid point stores: the adapter's product and the sixteen chunks of the quantized weight's. -/
def pointOut (x0 : Vec F S256x16384 .bf16) (x1 : Vec F S8192x512 .i8) (x2 : Vec F S128x512 .bf16) (x6 : Vec F S2x512 .i8)
    (x7 : Vec F S4x512 .i32) (x8 : Vec F S30x512 .i32) (t : Vec F S256x512 .f32) (zu : Vec F S512x128 .bf16) : FVec F S256x512 .bf16 :=
  truncf .bf16 (chain (mixed t (k0_pay105 x8) (k0_pay106 x7) (k0_pay107 x6) zu) (fun n => View.ld x1 (rectW n)) (fun n => View.ld x2 (rectS n))
    (fun n => View.ld x0 (rectX n)) 16) bitsLt_bf16_f32

/-- A later grid point: the scratch is as the point found it. -/
theorem outB (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : ¬cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32)
    (xs0 : Vec F S256x512 .f32) (xs1 : Vec F S512x128 .bf16) :
    out0_B_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13 xs0 xs1
      = pointOut x0 x1 x2 x6 x7 x8 xs0 xs1 := by
  unfold out0_B_14
  rw [View.read_writes_eq_canon _ _ _ (cover0_B_14
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 x12 x13 xs0 xs1)]
  unfold kernelRun0_B
  dsimp only
  rw [View.canon_unit_zero hz2]
  have hm := mixed_eq (View.readAt (Elt F) arg16.view (Rect.unit ![0, 0] S256x512.size inb_S256x512_S256x512_0_0).toLoadRect (harg16.unread xs0))
    (View.readAt (Elt F) arg9.view (Rect.unit ![0, 0] S30x512.size inb_S30x512_S30x512_0_0).toLoadRect (harg9.unread x8))
    (View.readAt (Elt F) arg8.view (Rect.unit ![0, 0] S4x512.size inb_S4x512_S4x512_0_0).toLoadRect (harg8.unread x7))
    (View.readAt (Elt F) arg7.view (Rect.unit ![0, 0] S2x512.size inb_S2x512_S2x512_0_0).toLoadRect (harg7.unread x6))
    (View.readAt (Elt F) arg17.view (Rect.unit ![0, 0] S512x128.size inb_S512x128_S512x128_0_0).toLoadRect (harg17.unread xs1))
  have hr : (kernelRun0_B.sl.r_53 c arg7 harg7 arg8 harg8 arg9 harg9 arg16 harg16 arg17 harg17 x6 x7 x8 xs0 xs1) = _ := hm
  refine (whole_eq (kernelRun0_B.sl.r_53 c arg7 harg7 arg8 harg8 arg9 harg9 arg16 harg16 arg17 harg17 x6 x7 x8 xs0 xs1)
    (fun n => View.readAt (Elt F) arg2.view (rectW n).toLoadRect (harg2.unread x1))
    (fun n => View.readAt (Elt F) arg3.view (rectS n).toLoadRect (harg3.unread x2))
    (fun n => View.readAt (Elt F) arg1.view (rectX n).toLoadRect (harg1.unread x0))).trans ?_
  rw [hr]
  unfold pointOut
  simp only [View.readAt_eq_ld, harg1.read_unread, harg2.read_unread, harg3.read_unread, harg7.read_unread, harg8.read_unread,
    harg9.read_unread, harg16.read_unread, harg17.read_unread]
  rw [View.ld_unit_zero (S := S256x512) hz2, View.ld_unit_zero (S := S30x512) hz2, View.ld_unit_zero (S := S4x512) hz2,
    View.ld_unit_zero (S := S2x512) hz2, View.ld_unit_zero (S := S512x128) hz2]
/-- The first scratch buffer after the first grid point holds the last value stored into it. -/
theorem scrT (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32) :
    sout0_A_0 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13
      = (kernelRun0_A.sl.r_6 c i arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17 hc0 x0 x3
        x4 x5 x9 x10 x11 x13) := by
  unfold sout0_A_0
  rw [View.read_writes_eq_canon _ _ _ (scover0_A_0
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 x12 x13)]
  unfold kernelRun0_A
  dsimp only
  unfold kernelRun0_A.sl.HS0_1_1
  exact View.canon_cons_unit_zero hz2 _ _ _

/-- The second scratch buffer after the first grid point. -/
theorem scrZ (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32) :
    sout0_A_1 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13
      = k0_pay86 (kernelRun0_A.sl.r_2 c arg13 harg13 x12) kernelRun0_A.sl.v1498 (select k0_pay73 k0_pay74 k0_pay72)
        kernelRun0_A.sl.v1688 kernelRun0_A.sl.v1743 kernelRun0_A.sl.v1745 kernelRun0_A.sl.v1747 kernelRun0_A.sl.v1749
        kernelRun0_A.sl.v1755 kernelRun0_A.sl.v1757 kernelRun0_A.sl.v1602 := by
  unfold sout0_A_1
  rw [View.read_writes_eq_canon _ _ _ (scover0_A_1
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 x12 x13)]
  unfold kernelRun0_A
  dsimp only
  unfold kernelRun0_A.sl.HS1_1
  exact View.canon_unit_zero hz2 _ _

/-- The first grid point: the scratch is as the point itself left it. -/
theorem outA (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32) :
    out0_A_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13
      = pointOut x0 x1 x2 x6 x7 x8 (sout0_A_0 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 hc0 x0 x1 x2 x3 x4 x5
        x6 x7 x8 x9 x10 x11 x12 x13) (sout0_A_1 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 hc0 x0 x1 x2 x3 x4 x5
        x6 x7 x8 x9 x10 x11 x12 x13) := by
  unfold out0_A_14
  rw [View.read_writes_eq_canon _ _ _ (cover0_A_14
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 x12 x13)]
  unfold kernelRun0_A
  dsimp only
  rw [View.canon_unit_zero hz2]
  have hm := mixed_eq (kernelRun0_A.sl.v513 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 hc0 x0 x3 x4
      x5 x9 x10 x11 x13)
    (View.readAt (Elt F) arg9.view (Rect.unit ![0, 0] S30x512.size inb_S30x512_S30x512_0_0).toLoadRect (harg9.unread x8))
    (View.readAt (Elt F) arg8.view (Rect.unit ![0, 0] S4x512.size inb_S4x512_S4x512_0_0).toLoadRect (harg8.unread x7))
    (View.readAt (Elt F) arg7.view (Rect.unit ![0, 0] S2x512.size inb_S2x512_S2x512_0_0).toLoadRect (harg7.unread x6))
    (kernelRun0_A.sl.v9 c arg13 harg13 arg17 x12)
  have hr : (kernelRun0_A.sl.r_60 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 hc0 x0 x3 x4
      x5 x6 x7 x8 x9 x10 x11 x12 x13) = _ := hm
  refine (whole_eq (kernelRun0_A.sl.r_60 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 hc0 x0 x3 x4
      x5 x6 x7 x8 x9 x10 x11 x12 x13)
    (fun n => View.readAt (Elt F) arg2.view (rectW n).toLoadRect (harg2.unread x1))
    (fun n => View.readAt (Elt F) arg3.view (rectS n).toLoadRect (harg3.unread x2))
    (fun n => View.readAt (Elt F) arg1.view (rectX n).toLoadRect (harg1.unread x0))).trans ?_
  rw [hr]
  unfold pointOut
  have e1 : (kernelRun0_A.sl.v513 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 hc0 x0 x3 x4
      x5 x9 x10 x11 x13)
      = (kernelRun0_A.sl.r_6 c i arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17 hc0 x0 x3
        x4 x5 x9 x10 x11 x13) := by
    unfold kernelRun0_A.sl.v513 kernelRun0_A.sl.HS0_1_1
    exact View.readCov_full (s := S256x512) arg16.view inb_S256x512_S256x512_0_0 inb_S256x512_S256x512_0_0 _ _
  have e2 : (kernelRun0_A.sl.v9 c arg13 harg13 arg17 x12)
      = k0_pay86 (kernelRun0_A.sl.r_2 c arg13 harg13 x12) kernelRun0_A.sl.v1498 (select k0_pay73 k0_pay74 k0_pay72)
        kernelRun0_A.sl.v1688 kernelRun0_A.sl.v1743 kernelRun0_A.sl.v1745 kernelRun0_A.sl.v1747 kernelRun0_A.sl.v1749
        kernelRun0_A.sl.v1755 kernelRun0_A.sl.v1757 kernelRun0_A.sl.v1602 := by
    unfold kernelRun0_A.sl.v9 kernelRun0_A.sl.HS1_1
    exact View.readCov_full (s := S512x128) arg17.view inb_S512x128_S512x128_0_0 inb_S512x128_S512x128_0_0 _ _
  simp only [View.readAt_eq_ld, harg1.read_unread, harg2.read_unread, harg3.read_unread, harg7.read_unread, harg8.read_unread,
    harg9.read_unread]
  rw [View.ld_unit_zero (S := S30x512) hz2, View.ld_unit_zero (S := S4x512) hz2, View.ld_unit_zero (S := S2x512) hz2, scrT, scrZ]
  rw [e1, e2]

end Cert.Delta

end
-- ==== Proof.Slots.lean ====
module

public import proofs.«01_k».proof.Proof.Point

/-! The kernel's own slot numbers, computed in 32-bit words, are the ranks; a masked sum over a row picks the row's entry at a
    slot's rank. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

/-- A row's entries picked by slot: at a slot numbered `r`, entry `r - 2`, and zero for the two first ranks. -/
def hot (slot : IVec S512x510 32) (z : FVec F S1x510 .f32) : FVec F S512x128 .bf16 :=
  truncf .bf16 (broadcastTo S512x128 (shapeCast S512x1 (shapeCast S512x1 (multiReduction .add [1] S512
    (select (cmpi .eq slot (addi (iota .tc S512x510 32 [1] iota_S512x510_d1_w32) (broadcast S512x510 2#32)))
      (broadcastTo S512x510 (shapeCast S1x510 z shapeCasts_S1x510_S1x510) broadcasts_S1x510_S512x510)
      (broadcast S512x510 (Scalar.ofBits .f32 0x00000000#32)))
    0x00000000#32 reduces_S512x510_S512 (.inl rfl) rfl) shapeCasts_S512_S512x1) shapeCasts_S512x1_S512x1) broadcasts_S512x1_S512x128)
    bitsLt_bf16_f32

/-- The slot numbers of the first factor's zero points. -/
def slotV : IVec S512x510 32 :=
  select (cmpi .slt k0_pay64 (broadcast S512x510 60#32)) kernelRun0_A.sl.v1593
    (addi (select (cmpi .eq k0_pay64 kernelRun0_A.sl.v1614) k0_pay63 kernelRun0_A.sl.v1625) (broadcast S512x510 2#32))

theorem slotV_at : ∀ s : Fin 512, slotV (ix2 s 0) = BitVec.ofNat 32 (rank s) := by decide +kernel

theorem slotV_col (s : Fin 512) (c : Fin 510) : slotV (ix2 s c) = slotV (ix2 s 0) := rfl

theorem zv_eq (z : FVec F S1x510 .f32) : k0_pay70 z kernelRun0_A.sl.v1498 k0_pay63 k0_pay64 kernelRun0_A.sl.v1593
    (cmpi .eq k0_pay64 kernelRun0_A.sl.v1614) kernelRun0_A.sl.v1625 = hot slotV z := rfl

/-- The slot numbers of the second factor's zero points. -/
def slotU : IVec S512x510 32 :=
  select (cmpi .slt kernelRun0_A.sl.v1688 (broadcast S512x510 60#32)) kernelRun0_A.sl.v1743
    (addi (select (cmpi .eq kernelRun0_A.sl.v1688 (broadcast S512x510 60#32)) (select k0_pay73 k0_pay74 k0_pay72)
      (select (cmpi .eq kernelRun0_A.sl.v1688 (broadcast S512x510 61#32)) (addi (broadcast S512x510 10#32) (select k0_pay73 k0_pay74 k0_pay72))
        (select (cmpi .eq kernelRun0_A.sl.v1688 (broadcast S512x510 62#32)) (addi (broadcast S512x510 20#32) (select k0_pay73 k0_pay74 k0_pay72))
          (select kernelRun0_A.sl.v1745 kernelRun0_A.sl.v1747 (select kernelRun0_A.sl.v1749 kernelRun0_A.sl.v1755
            (addi (muli kernelRun0_A.sl.v1602 kernelRun0_A.sl.v1757) (broadcast S512x510 9#32))))))) (broadcast S512x510 2#32))

theorem slotU_at : ∀ s : Fin 512, slotU (ix2 s 0) = BitVec.ofNat 32 (rank s) := by decide +kernel

theorem slotU_col (s : Fin 512) (c : Fin 510) : slotU (ix2 s c) = slotU (ix2 s 0) := rfl

theorem zu_eq (z : FVec F S1x510 .f32) : k0_pay86 z kernelRun0_A.sl.v1498 (select k0_pay73 k0_pay74 k0_pay72)
    kernelRun0_A.sl.v1688 kernelRun0_A.sl.v1743 kernelRun0_A.sl.v1745 kernelRun0_A.sl.v1747 kernelRun0_A.sl.v1749
    kernelRun0_A.sl.v1755 kernelRun0_A.sl.v1757 kernelRun0_A.sl.v1602
      = shapeCast S512x128 (hot slotU z) shapeCasts_S512x128_S512x128 := rfl

theorem rank_lt : ∀ s : Fin 512, rank s < 512 := by decide +kernel

/-- A mask that compares two small numbers as words. -/
theorem pick {α : Type} (r x d : Nat) (hr : r < 512) (hx : x < 512) (hd : d < 3) (a b : α) :
    Scalar.select (IntOp.cmpi .eq (BitVec.ofNat 32 r) (IntOp.addi (BitVec.ofNat 32 x) (BitVec.ofNat 32 d))) a b
      = if x + d = r then a else b := by
  have e : (BitVec.ofNat 32 r = BitVec.ofNat 32 x + BitVec.ofNat 32 d) ↔ x + d = r := by
    rw [← BitVec.ofNat_add, ← BitVec.toNat_inj, BitVec.toNat_ofNat, BitVec.toNat_ofNat, Nat.mod_eq_of_lt (by omega),
      Nat.mod_eq_of_lt (by omega)]
    exact eq_comm
  show (if BitVec.ofBool (BitVec.ofNat 32 r == BitVec.ofNat 32 x + BitVec.ofNat 32 d) = 1 then a else b) = _
  by_cases h : x + d = r
  · rw [if_pos h, beq_iff_eq.2 (e.2 h)]
    rfl
  · rw [if_neg h, beq_eq_false_iff_ne.2 fun q => h (e.1 q)]
    rfl

theorem hot_at (slot : IVec S512x510 32) (z : FVec Ideal S1x510 .f32) (s : Fin 512) (c : Fin 128)
    (h : ∀ k, slot (ix2 s k) = BitVec.ofNat 32 (rank s)) :
    hot slot z (ix2 s c) = if 2 ≤ rank s then z (ix2 0 (Fin.ofNat 510 (rank s - 2))) else 0 := by
  have hr := rank_lt s
  unfold hot
  pointwise [h]
  rw [Finset.sum_congr rfl fun x _ => pick (rank s) x.val 2 hr (by omega) (by decide) _ _]
  split
  · next h2 =>
    rw [Finset.sum_eq_single (Fin.ofNat 510 (rank s - 2))]
    · rw [if_pos]
      show (rank s - 2) % 510 + 2 = rank s
      omega
    · intro b _ hb
      rw [if_neg]
      intro hc
      exact hb (Fin.ext (by show b.val = (rank s - 2) % 510; omega))
    · exact fun hn => absurd (Finset.mem_univ _) hn
  · next h2 => exact Finset.sum_eq_zero fun x _ => if_neg (by omega)

/-- The slot numbers of the coefficients. -/
def slotC : IVec S512x512 32 :=
  select (cmpi .slt kernelRun0_A.sl.v1848 (broadcast S512x512 60#32)) kernelRun0_A.sl.v1903
    (addi (select (cmpi .eq kernelRun0_A.sl.v1848 kernelRun0_A.sl.v1924) k0_pay89
      (select (cmpi .eq kernelRun0_A.sl.v1848 kernelRun0_A.sl.v1926) (addi kernelRun0_A.sl.v1912 k0_pay89)
        (select (cmpi .eq kernelRun0_A.sl.v1848 kernelRun0_A.sl.v1930) (addi kernelRun0_A.sl.v1932 k0_pay89) kernelRun0_A.sl.v1923)))
      (broadcast S512x512 2#32))

theorem slotC_at : ∀ s : Fin 512, slotC (ix2 s 0) = BitVec.ofNat 32 (rank s) := by decide +kernel

theorem slotC_col (s : Fin 512) (c : Fin 512) : slotC (ix2 s c) = slotC (ix2 s 0) := rfl

/-- The coefficients picked by slot, laid along a row. -/
def coefs (slot : IVec S512x512 32) (z : FVec F S1x512 .f32) : FVec F S1x512 .f32 :=
  shapeCast S1x512 (multiReduction .add [0] S512
    (select (cmpi .eq (iota .tc S512x512 32 [0] iota_S512x512_d0_w32) (iota .tc S512x512 32 [1] iota_S512x512_d1_w32))
      (broadcastTo S512x512 (shapeCast S512x1 (shapeCast S512x1 (multiReduction .add [1] S512
        (select (cmpi .eq slot (addi (iota .tc S512x512 32 [1] iota_S512x512_d1_w32) (broadcast S512x512 0#32)))
          (broadcastTo S512x512 (shapeCast S1x512 z shapeCasts_S1x512_S1x512) broadcasts_S1x512_S512x512)
          (broadcast S512x512 (Scalar.ofBits .f32 0x00000000#32)))
        0x00000000#32 reduces_S512x512_S512 (.inl rfl) rfl) shapeCasts_S512_S512x1) shapeCasts_S512x1_S512x1) broadcasts_S512x1_S512x512)
      (broadcast S512x512 (Scalar.ofBits .f32 0x00000000#32)))
    0x00000000#32 reduces_S512x512_S512_2 (.inl rfl) rfl) shapeCasts_S512_S1x512

/-- The coordinates times their coefficients, rounded as the program rounds them. -/
def scaled (z : FVec F S1x512 .f32) (t : FVec F S256x512 .f32) : FVec F S256x512 .f32 :=
  shapeCast S256x512 (extf .f32 (truncf .bf16 (mulf t (broadcastTo S256x512 z broadcasts_S1x512_S256x512)) bitsLt_bf16_f32)
    bitsLt_bf16_f32) shapeCasts_S256x512_S256x512

theorem scaled_eq (z : FVec F S1x512 .f32) (t : FVec F S256x512 .f32) :
    k0_pay104 z kernelRun0_A.sl.v1808 k0_pay89 kernelRun0_A.sl.v1848 kernelRun0_A.sl.v1903 kernelRun0_A.sl.v1923
      (cmpi .eq kernelRun0_A.sl.v1848 kernelRun0_A.sl.v1924) (cmpi .eq kernelRun0_A.sl.v1848 kernelRun0_A.sl.v1926)
      (addi kernelRun0_A.sl.v1912 k0_pay89) (cmpi .eq kernelRun0_A.sl.v1848 kernelRun0_A.sl.v1930) kernelRun0_A.sl.v1932 t
      = scaled (coefs slotC z) t := rfl

theorem coefs_at (slot : IVec S512x512 32) (z : FVec Ideal S1x512 .f32) (s : Fin 512)
    (h : ∀ s k, slot (ix2 s k) = BitVec.ofNat 32 (rank s.val)) :
    coefs slot z (ix2 0 s) = z (ix2 0 (⟨rank s, rank_lt s⟩ : Fin 512)) := by
  unfold coefs
  pointwise [h]
  have hr := rank_lt s
  rw [Finset.sum_eq_single s]
  · rw [Finset.sum_congr rfl fun x _ => pick (rank s) x.val 0 hr (by omega) (by decide) _ _]
    have hs := pick s.val s.val 0 (by omega) (by omega) (by decide)
      (∑ x : Fin 512, if x.val + 0 = rank s then z (ix2 0 x) else 0) (0 : EReal)
    rw [if_pos (by omega)] at hs
    refine Eq.trans (by simpa [IntOp.addi] using hs) ?_
    rw [Finset.sum_eq_single (⟨rank s, hr⟩ : Fin 512)]
    · rw [if_pos rfl]
    · intro b _ hb
      exact if_neg fun hc => hb (Fin.ext hc)
    · exact fun hn => absurd (Finset.mem_univ _) hn
  · intro b _ hb
    have hs := pick b.val s.val 0 (by omega) (by omega) (by decide)
      (∑ x_1 : Fin 512, Scalar.select (IntOp.cmpi .eq (BitVec.ofNat 32 (rank b.val)) (IntOp.addi (BitVec.ofNat 32 x_1.val) 0#32)) (z (ix2 0 x_1)) 0) (0 : EReal)
    rw [if_neg (fun h => hb (Fin.ext (by omega)))] at hs
    simpa [IntOp.addi] using hs
  · exact fun hn => absurd (Finset.mem_univ _) hn

theorem scaled_at (z : FVec Ideal S1x512 .f32) (t : FVec Ideal S256x512 .f32) (b : Fin 256) (s : Fin 512) :
    scaled z t (ix2 b s) = t (ix2 b s) * z (ix2 0 s) := by
  unfold scaled
  pointwise []

end Cert.Delta

end
-- ==== Proof.Trip.lean ====
module

public import proofs.«01_k».proof.Proof.Unpack
public import proofs.«01_k».proof.Proof.Gen.KernelIdeal.Value

/-! One trip of the first product's loop: the rows it multiplies with. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

section Trip
variable (i : grid0.Coords) (arg1 : Memref sig .tc .vmem S256x16384 .bf16) (arg4 : Memref sig .tc .vmem S2x16384 .i8)
  (arg5 : Memref sig .tc .vmem S4x16384 .i32) (arg6 : Memref sig .tc .vmem S30x16384 .i32) (arg16 : Memref sig .tc .vmem S256x512 .f32)
  (k0_h1 : k0_cond1 i = 1#1) (v1643 : FVec F S512x128 .bf16) (X_arg1 : BufTy.Contents (Elt F) arg1.view.ty)
  (X_arg4 : BufTy.Contents (Elt F) arg4.view.ty) (X_arg5 : BufTy.Contents (Elt F) arg5.view.ty)
  (X_arg6 : BufTy.Contents (Elt F) arg6.view.ty) (k : Fin k0_t1_loop.trips) (f_arg16 : BufTy.Contents (Elt F) arg16.view.ty)

/-- The trip's 32 blocks are the unpacked chunk of the first factor. -/
theorem trip_unpack : trip_k0_t1.sl.v2488 (F := F) i arg4 arg5 arg6 k0_h1 v1643 X_arg4 X_arg5 X_arg6 k
    = unpack (n := 256) (trip_k0_t1.sl.v1979 i arg6 k0_h1 X_arg6 k) (trip_k0_t1.sl.v1982 i arg5 k0_h1 X_arg5 k)
        (trip_k0_t1.sl.v1985 i arg4 k0_h1 X_arg4 k) (trip_k0_t1.sl.v1986 v1643) := by
  unfold trip_k0_t1.sl.v2488 unpack
  refine pile_eq (n := 256) (piece (n := 256) _ _ _ _) _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  all_goals rfl

end Trip

end Cert.Delta

end
-- ==== Proof.Loop.lean ====
module

public import proofs.«01_k».proof.Proof.Point
public import proofs.«01_k».proof.Proof.Trip

/-! The loop of the first product: 64 trips, each adding the product of 256 columns of `x` with the unpacked rows of the
first factor, starting from zero. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

/-! ### The loads of a trip -/

theorem colsT {m : Nat} (n : Nat) : ∀ a, (![0, 256 * (n % 64)] : Fin 2 → Nat) a + (⟨2, ![m, 256]⟩ : Shape).size a
    ≤ (⟨2, ![m, 16384]⟩ : Shape).size a := by
  intro a; fin_cases a
  · exact (Nat.zero_add m).le
  · show 256 * (n % 64) + 256 ≤ 16384; omega

/-- Trip `n`'s 256 columns of an operand of `m` rows. -/
def rectT (m n : Nat) : Rect (⟨2, ![m, 16384]⟩ : Shape) := Rect.unit ![0, 256 * (n % 64)] (⟨2, ![m, 256]⟩ : Shape).size (colsT n)

/-- Those columns. -/
def colsOf {m : Nat} {e : EltTy} (x : Vec F ⟨2, ![m, 16384]⟩ e) (n : Nat) : Vec F ⟨2, ![m, 256]⟩ e := View.ld x (rectT m n)

theorem ldT {m : Nat} {e : EltTy} (x : Vec F ⟨2, ![m, 16384]⟩ e) (n : Nat) (hn : n < 64) (r : Fin m) (d : Fin 256) :
    colsOf x n (ix2 r d) = x (ix2 r (⟨256 * n + d, by omega⟩ : Fin 16384)) :=
  View.ld_unit_apply_of x _ _ _ _ _ (fun a => by
    fin_cases a
    · exact (Nat.zero_add _).symm
    · show 256 * n + d.val = 256 * (n % 64) + d.val; omega)

theorem ld_cast {s : Shape} {e : EltTy} (x : Vec F s e) (size : Fin s.rank → Nat) {off off' : Fin s.rank → Nat}
    (h : ∀ a, off a + size a ≤ s.size a) (h' : ∀ a, off' a + size a ≤ s.size a) (hq : off = off') :
    View.ld x (Rect.unit off size h) = View.ld x (Rect.unit off' size h') := by
  subst hq; rfl

theorem trips_lt (k : Fin k0_t1_loop.trips) : k.val % 64 = k.val :=
  Nat.mod_eq_of_lt (Nat.lt_of_lt_of_le k.isLt k0_t1_abs.2.1)

theorem trips_eq : Scf.trips k0_t1_loop.lb k0_t1_loop.ub k0_t1_loop.st = 64 := by decide +kernel

/-! ### The running sum -/

section Sum
variable (zv : FVec F S512x128 .bf16) (x0 : Vec F S256x16384 .bf16) (x3 : Vec F S2x16384 .i8) (x4 : Vec F S4x16384 .i32)
  (x5 : Vec F S30x16384 .i32)

/-- The rows of the first factor that trip `n` multiplies with. -/
def rowsV (n : Nat) : FVec F S512x256 .bf16 :=
  unpack (n := 256) (colsOf x5 n) (colsOf x4 n) (colsOf x3 n) (trip_k0_t1.sl.v1986 zv)

/-- The accumulator after `n` trips. -/
def tsum : Nat → FVec F S256x512 .f32
  | 0 => k0_pay102
  | n + 1 => k0_pay61 (rowsV zv x3 x4 x5 n) (tsum n) (colsOf x0 n)

theorem tsum_succ (n : Nat) :
    tsum zv x0 x3 x4 x5 (n + 1) = k0_pay61 (rowsV zv x3 x4 x5 n) (tsum zv x0 x3 x4 x5 n) (colsOf x0 n) := rfl

end Sum

section Sum
variable (zv : FVec Ideal S512x128 .bf16) (x0 : Vec Ideal S256x16384 .bf16) (x3 : Vec Ideal S2x16384 .i8)
  (x4 : Vec Ideal S4x16384 .i32) (x5 : Vec Ideal S30x16384 .i32)

theorem rowsV_at (n : Nat) (hn : n < 64) (s : Fin 512) (d : Fin 256) :
    rowsV zv x3 x4 x5 n (ix2 s d)
      = entry (fun q => x5 (ix2 q (⟨256 * n + d, by omega⟩ : Fin 16384))) (fun q => x4 (ix2 q (⟨256 * n + d, by omega⟩ : Fin 16384)))
          (fun q => x3 (ix2 q (⟨256 * n + d, by omega⟩ : Fin 16384))) (zv (ix2 s (⟨d % 128, by omega⟩ : Fin 128))) (rank s) := by
  unfold rowsV
  rw [unpack_at, funext fun q => ldT x5 n hn q d, funext fun q => ldT x4 n hn q d, funext fun q => ldT x3 n hn q d]
  refine congrArg (fun z => entry _ _ _ z _) ?_
  show (trip_k0_t1.sl.v1986 zv) (ix2 s d) = _
  unfold trip_k0_t1.sl.v1986
  pointwise []
  split
  · exact congrArg (fun q => zv (ix2 s q)) (Fin.ext (by show d.val = d.val % 128; omega))
  · exact congrArg (fun q => zv (ix2 s q)) (Fin.ext (by show d.val - 128 = d.val % 128; omega))

theorem trip_at (u : FVec Ideal S512x256 .bf16) (acc : FVec Ideal S256x512 .f32) (xx : FVec Ideal S256x256 .bf16) (b : Fin 256)
    (s : Fin 512) : k0_pay61 u acc xx (ix2 b s) = acc (ix2 b s) + ∑ d : Fin 256, xx (ix2 b d) * u (ix2 s d) := by
  unfold k0_pay61
  pointwise []

theorem tsum_at (b : Fin 256) (s : Fin 512) : ∀ n : Nat, n ≤ 64 → tsum zv x0 x3 x4 x5 n (ix2 b s)
    = ∑ c : Fin n, ∑ d : Fin 256, colsOf x0 c (ix2 b d) * rowsV zv x3 x4 x5 c (ix2 s d)
  | 0, _ => by
    rw [Finset.univ_eq_empty, Finset.sum_empty]
    unfold tsum k0_pay102
    pointwise []
  | n + 1, h => by
    rw [Fin.sum_univ_castSucc (n := n)]
    rw [tsum_succ, trip_at, tsum_at b s n (by omega)]
    rfl

end Sum

/-! ### The loop -/

section Loop
variable (c : Dev nD) (i : grid0.Coords) (arg1 : Memref sig .tc .vmem S256x16384 .bf16) (harg1 : arg1.IsWhole) (arg2 : Memref sig .tc
  .vmem S8192x512 .i8) (harg2 : arg2.IsWhole) (arg3 : Memref sig .tc .vmem S128x512 .bf16) (harg3 : arg3.IsWhole) (arg4 : Memref
  sig .tc .vmem S2x16384 .i8) (harg4 : arg4.IsWhole) (arg5 : Memref sig .tc .vmem S4x16384 .i32) (harg5 : arg5.IsWhole) (arg6 :
  Memref sig .tc .vmem S30x16384 .i32) (harg6 : arg6.IsWhole) (arg7 : Memref sig .tc .vmem S2x512 .i8) (harg7 : arg7.IsWhole)
  (arg8 : Memref sig .tc .vmem S4x512 .i32) (harg8 : arg8.IsWhole) (arg9 : Memref sig .tc .vmem S30x512 .i32) (harg9 :
  arg9.IsWhole) (arg10 : Memref sig .tc .vmem S1x512 .bf16) (harg10 : arg10.IsWhole) (arg11 : Memref sig .tc .vmem S1x512 .bf16)
  (harg11 : arg11.IsWhole) (arg12 : Memref sig .tc .vmem S1x510 .bf16) (harg12 : arg12.IsWhole) (arg13 : Memref sig .tc .vmem
  S1x510 .bf16) (harg13 : arg13.IsWhole) (arg14 : Memref sig .tc .vmem S1x512 .f32) (harg14 : arg14.IsWhole) (arg15 : Memref sig
  .tc .vmem S256x512 .bf16) (harg15 : arg15.IsWhole) (arg16 : Memref sig .tc .vmem S256x512 .f32) (harg16 : arg16.IsWhole)
  (arg17 : Memref sig .tc .vmem S512x128 .bf16) (harg17 : arg17.IsWhole) (k0_h1 : k0_cond1 i = 1#1) (v1643 : FVec F S512x128
  .bf16) (v1806 : FVec F S1x512 .f32) (v1808 : IVec S512x512 32) (v1832 : IVec S512x512 32) (v1848 : IVec S512x512 32) (v1903 :
  IVec S512x512 32) (v1923 : IVec S512x512 32) (v1925 : IVec S512x512 1) (v1927 : IVec S512x512 1) (v1929 : IVec S512x512 32)
  (v1931 : IVec S512x512 1) (v1932 : IVec S512x512 32)
  (x0 : Vec F S256x16384 .bf16) (x3 : Vec F S2x16384 .i8) (x4 : Vec F S4x16384 .i32) (x5 : Vec F S30x16384 .i32)

/-- The accumulator the loop leaves after `n` trips. -/
theorem loop_at : ∀ n : Nat, n ≤ k0_t1_loop.trips →
    arg16.view.readAt (Elt F) (Rect.unit (s := S256x512) ![0, 0] S256x512.size inb_S256x512_S256x512_0_0).toLoadRect
      (arg16.view.writes (Elt F) (arg16.view.writes (Elt F) arg16.view.junk kernelRun0_A.sl.HS0_1)
        (pb_k0_t1 (F := F)
          Variants.none c none i arg1 harg1 arg2 harg2 arg3 harg3 arg4 harg4 arg5 harg5 arg6 harg6 arg7 harg7 arg8 harg8 arg9
          harg9 arg10 harg10 arg11 harg11 arg12 harg12 arg13 harg13 arg14 harg14 arg15 harg15 arg16 harg16 arg17 harg17 k0_h1
          v1643 v1806 v1808 v1832 v1848 v1903 v1923 v1925 v1927 v1929 v1931 v1932
          (harg1.unread x0) (harg4.unread x3) (harg5.unread x4) (harg6.unread x5)
          (arg16.view.writes (Elt F) arg16.view.junk kernelRun0_A.sl.HS0_1) n))
      = tsum v1643 x0 x3 x4 x5 n := by
  intro n
  induction n with
  | zero =>
    intro _
    rw [pb_k0_t1.eq_1]
    exact View.readAt_writes_full (s := S256x512) _ _ _ _ _ _
  | succ n ih =>
    intro hn
    rw [pb_k0_t1_succ (F := F)
      Variants.none c none i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 k0_h1 v1643 v1806
      v1808 v1832 v1848 v1903 v1923 v1925 v1927 v1929 v1931 v1932
      (harg1.unread x0) (harg4.unread x3) (harg5.unread x4) (harg6.unread x5)
      (arg16.view.writes (Elt F) arg16.view.junk kernelRun0_A.sl.HS0_1) ⟨n, hn⟩]
    have hk := trips_lt ⟨n, hn⟩
    unfold tripL_k0_t1 trip_k0_t1
    refine (View.readAt_writes_full (s := S256x512) _ _ _ _ _ _).trans ?_
    refine (shapeCast_self _ _).trans ?_
    unfold trip_k0_t1.sl.r_39
    rw [trip_unpack, ih (Nat.le_of_lt hn)]
    unfold trip_k0_t1.sl.v1979 trip_k0_t1.sl.v1982 trip_k0_t1.sl.v1985
    rw [tsum_succ, shapeCast_self, shapeCast_self, shapeCast_self]
    simp only [View.readAt_eq_ld, harg1.read_unread, harg4.read_unread, harg5.read_unread, harg6.read_unread]
    rw [ld_cast x0 S256x256.size _ (colsT (m := 256) n) ((k0_off4_eq ⟨n, hn⟩).trans (by rw [hk])),
      ld_cast x3 S2x256.size _ (colsT (m := 2) n) ((k0_off3_eq ⟨n, hn⟩).trans (by rw [hk])),
      ld_cast x4 S4x256.size _ (colsT (m := 4) n) ((k0_off2_eq ⟨n, hn⟩).trans (by rw [hk])),
      ld_cast x5 S30x256.size _ (colsT (m := 30) n) ((k0_off1_eq ⟨n, hn⟩).trans (by rw [hk]))]
    rfl

end Loop

/-- What the loop leaves in the accumulator. -/
theorem sumT (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x3 : Vec F S2x16384 .i8) (x4 : Vec F S4x16384 .i32) (x5 : Vec F S30x16384 .i32) (x9 : Vec F S1x512 .bf16)
    (x10 : Vec F S1x512 .bf16) (x11 : Vec F S1x510 .bf16) (x13 : Vec F S1x512 .f32) :
    kernelRun0_A.sl.v1965 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 hc0 x0 x3 x4 x5 x9
    x10 x11 x13
      = tsum (kernelRun0_A.sl.r_1 c arg12 harg12 x11) x0 x3 x4 x5 64 := by
  unfold kernelRun0_A.sl.v1965
  unfold View.readCov
  rw [View.writes_append, trips_eq]
  exact loop_at _ _ _ _ _ _ _ _ _ _ _ _ _ _ _ _ _ _ _ _ _ _ _ _ _ _ _ _ _ _ _ _ _ _ _ _ _ _ _ _ _ _ _ _ _ _ _ _ _ _ _ _ _ 64 (by decide +kernel)

end Cert.Delta

end
-- ==== Proof.State.lean ====
module

public import proofs.«01_k».proof.Proof.Slots
public import proofs.«01_k».proof.Proof.Loop

/-! What the two scratch buffers hold after the first grid point, and after every later one. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

/-- The first factor's zero points by slot, the second factor's, and the coefficients in rank order. -/
def zvOf (x11 : Vec F S1x510 .bf16) : FVec F S512x128 .bf16 := hot slotV (k0_pay62 x11)
def zuOf (x12 : Vec F S1x510 .bf16) : FVec F S512x128 .bf16 := shapeCast S512x128 (hot slotU (k0_pay71 x12)) shapeCasts_S512x128_S512x128
def coefOf (x9 x10 : Vec F S1x512 .bf16) (x13 : Vec F S1x512 .f32) : FVec F S1x512 .f32 := k0_pay88 (k0_pay87 x9) x13 x10

/-- The coordinates of every row of `x` in the first factor, scaled. -/
def tOf (x0 : Vec F S256x16384 .bf16) (x3 : Vec F S2x16384 .i8) (x4 : Vec F S4x16384 .i32) (x5 : Vec F S30x16384 .i32)
    (x9 x10 : Vec F S1x512 .bf16) (x11 : Vec F S1x510 .bf16) (x13 : Vec F S1x512 .f32) : FVec F S256x512 .f32 :=
  scaled (coefs slotC (coefOf x9 x10 x13)) (tsum (zvOf x11) x0 x3 x4 x5 64)

theorem stateT (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32) :

    sout0_A_0 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13
      = tOf x0 x3 x4 x5 x9 x10 x11 x13 := by
  rw [scrT]
  unfold kernelRun0_A.sl.r_6
  rw [scaled_eq, sumT]
  unfold tOf coefOf zvOf kernelRun0_A.sl.r_5 kernelRun0_A.sl.r_1 kernelRun0_A.sl.r_3 kernelRun0_A.sl.r_4 kernelRun0_A.sl.r
  rw [zv_eq]
  simp only [View.readAt_eq_ld, harg10.read_unread, harg11.read_unread, harg12.read_unread, harg14.read_unread]
  rw [View.ld_unit_zero (S := S1x512) hz2, View.ld_unit_zero (S := S1x512) hz2, View.ld_unit_zero (S := S1x512) hz2,
    View.ld_unit_zero (S := S1x510) hz2]

theorem stateZ (c : Dev nD) (i : grid0.Coords) (arg1 : Memref sig .tc .vmem S256x16384 .bf16) (harg1 : arg1.IsWhole) (arg2 : Memref sig .tc
    .vmem S8192x512 .i8) (harg2 : arg2.IsWhole) (arg3 : Memref sig .tc .vmem S128x512 .bf16) (harg3 : arg3.IsWhole) (arg4 :
    Memref sig .tc .vmem S2x16384 .i8) (harg4 : arg4.IsWhole) (arg5 : Memref sig .tc .vmem S4x16384 .i32) (harg5 : arg5.IsWhole)
    (arg6 : Memref sig .tc .vmem S30x16384 .i32) (harg6 : arg6.IsWhole) (arg7 : Memref sig .tc .vmem S2x512 .i8) (harg7 :
    arg7.IsWhole) (arg8 : Memref sig .tc .vmem S4x512 .i32) (harg8 : arg8.IsWhole) (arg9 : Memref sig .tc .vmem S30x512 .i32)
    (harg9 : arg9.IsWhole) (arg10 : Memref sig .tc .vmem S1x512 .bf16) (harg10 : arg10.IsWhole) (arg11 : Memref sig .tc .vmem
    S1x512 .bf16) (harg11 : arg11.IsWhole) (arg12 : Memref sig .tc .vmem S1x510 .bf16) (harg12 : arg12.IsWhole) (arg13 : Memref
    sig .tc .vmem S1x510 .bf16) (harg13 : arg13.IsWhole) (arg14 : Memref sig .tc .vmem S1x512 .f32) (harg14 : arg14.IsWhole)
    (arg15 : Memref sig .tc .vmem S256x512 .bf16) (harg15 : arg15.IsWhole) (arg16 : Memref sig .tc .vmem S256x512 .f32) (harg16
    : arg16.IsWhole) (arg17 : Memref sig .tc .vmem S512x128 .bf16) (harg17 : arg17.IsWhole) (hc0 : cond0_0 i) (x0 : Vec F
    S256x16384 .bf16) (x1 : Vec F S8192x512 .i8) (x2 : Vec F S128x512 .bf16) (x3 : Vec F S2x16384 .i8) (x4 : Vec F S4x16384
    .i32) (x5 : Vec F S30x16384 .i32) (x6 : Vec F S2x512 .i8) (x7 : Vec F S4x512 .i32) (x8 : Vec F S30x512 .i32) (x9 : Vec F
    S1x512 .bf16) (x10 : Vec F S1x512 .bf16) (x11 : Vec F S1x510 .bf16) (x12 : Vec F S1x510 .bf16) (x13 : Vec F S1x512 .f32) :

    sout0_A_1 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 x12 x13
      = zuOf x12 := by
  rw [scrZ, zu_eq]
  unfold zuOf kernelRun0_A.sl.r_2
  simp only [View.readAt_eq_ld, harg13.read_unread]
  rw [View.ld_unit_zero (S := S1x510) hz2]

section At
variable (x0 : Vec Ideal S256x16384 .bf16) (x3 : Vec Ideal S2x16384 .i8) (x4 : Vec Ideal S4x16384 .i32) (x5 : Vec Ideal S30x16384 .i32)
    (x9 x10 : Vec Ideal S1x512 .bf16) (x11 x12 : Vec Ideal S1x510 .bf16) (x13 : Vec Ideal S1x512 .f32)

/-- The zero point of rank `r`, none for the two first ranks. -/
def zeroAt (z : Vec Ideal S1x510 .bf16) (r : Nat) : EReal := if 2 ≤ r then z (ix2 0 (Fin.ofNat 510 (r - 2))) else 0

theorem zvOf_at (s : Fin 512) (q : Fin 128) : zvOf x11 (ix2 s q) = zeroAt x11 (rank s) := by
  unfold zvOf zeroAt
  rw [hot_at _ _ _ _ fun k => (slotV_col s k).trans (slotV_at s)]
  unfold k0_pay62
  pointwise []

theorem zuOf_at (s : Fin 512) (q : Fin 128) : zuOf x12 (ix2 s q) = zeroAt x12 (rank s) := by
  unfold zuOf zeroAt
  rw [shapeCast_self, hot_at _ _ _ _ fun k => (slotU_col s k).trans (slotU_at s)]
  unfold k0_pay71
  pointwise []

theorem coefOf_at (r : Fin 512) : coefOf x9 x10 x13 (ix2 0 r) = x9 (ix2 0 r) * x13 (ix2 0 r) * x10 (ix2 0 r) := by
  unfold coefOf k0_pay88 k0_pay87
  pointwise []

/-- A slot's coordinate: `x` against the first factor's entries of the slot's rank, times the rank's coefficient. -/
theorem tOf_at (b : Fin 256) (s : Fin 512) : tOf x0 x3 x4 x5 x9 x10 x11 x13 (ix2 b s)
    = (∑ k : Fin 16384, x0 (ix2 b k) * entry (fun q => x5 (ix2 q k)) (fun q => x4 (ix2 q k)) (fun q => x3 (ix2 q k))
          (zeroAt x11 (rank s)) (rank s))
        * (x9 (ix2 0 (⟨rank s, rank_lt s⟩ : Fin 512)) * x13 (ix2 0 (⟨rank s, rank_lt s⟩ : Fin 512))
            * x10 (ix2 0 (⟨rank s, rank_lt s⟩ : Fin 512))) := by
  unfold tOf
  rw [scaled_at, coefs_at _ _ _ fun s k => (slotC_col s k).trans (slotC_at s), coefOf_at, tsum_at _ _ _ _ _ _ _ 64 (Nat.le_refl 64),
    Fin.sum_univ_tiles 64 256 rfl]
  refine congrArg (fun y => y * _) (Finset.sum_congr rfl fun n _ => Finset.sum_congr rfl fun d _ => ?_)
  rw [rowsV_at _ _ _ _ _ n.isLt, ldT _ _ n.isLt, zvOf_at]
  have e : (⟨256 * n.val + d.val, by omega⟩ : Fin 16384) = ⟨n.val * 256 + d.val, by omega⟩ := Fin.ext (by show 256 * n.val + d.val = n.val * 256 + d.val; omega)
  rw [e]

end At

section Points
variable (m : (ℓ : Loc nD τ sig) → Buf (Elt F) ℓ) (c : Dev nD)

/-- What the fold over the grid points leaves at point `n`: the point's stores, and the scratch buffers as the first point left them. -/
def held (n : Nat) (hn : n < cfg0.N) : Vec F S256x512 .bf16 × Vec F S256x512 .f32 × Vec F S512x128 .bf16 :=
  let t0 : Fin cfg0.N := ⟨0, Nat.lt_of_le_of_lt (Nat.zero_le n) hn⟩
  let t : Fin cfg0.N := ⟨n, hn⟩
  let T := tOf (iblk m c 0 t0) (iblk m c 3 t0) (iblk m c 4 t0) (iblk m c 5 t0) (iblk m c 9 t0) (iblk m c 10 t0) (iblk m c 11 t0)
    (iblk m c 13 t0)
  let Z := zuOf (iblk m c 12 t0)
  (pointOut (iblk m c 0 t) (iblk m c 1 t) (iblk m c 2 t) (iblk m c 6 t) (iblk m c 7 t) (iblk m c 8 t) T Z, T, Z)

/-- After point `n` the run holds the point's stores and the scratch buffers of the first point. -/
theorem outs_eq : ∀ (n : Nat) (hn : n < cfg0.N), outsAt0 m c n hn = held m c n hn
  | 0, hn => by
    rw [Value.outsAt0_zero, Value.stAt0_A m c ⟨0, hn⟩ _ (Nat.zero_mod _), outA, stateT, stateZ]
    rfl
  | n + 1, hn => by
    have h10 : n + 1 < 10 := lt_of_lt_of_eq hn N_0
    rw [Value.outsAt0_succ, outs_eq n (Nat.lt_of_succ_lt hn),
      Value.stAt0_B m c ⟨n + 1, hn⟩ _ (by show ¬ (n + 1) % 10 = 0; omega), outB]
    rfl

/-- What the run leaves in the output array, tile by tile. -/
theorem final_eq (b : Fin 256) (o : Fin 5120) : Value.G14 m c (ix2 b o)
    = (held m c (o.val / 512) (lt_of_lt_of_eq (by omega) N_0.symm)).1 (ix2 b (⟨o.val % 512, Nat.mod_lt _ (by decide)⟩ : Fin 512)) := by
  have hp : Value.pt14Of (ix2 b o) = o.val / 512 := by
    show 10 * (b.val / 256 - 0) + 1 * (o.val / 512 - 0) = _
    omega
  have hl : Value.loc14Of (ix2 b o) = ix2 b (⟨o.val % 512, Nat.mod_lt _ (by decide)⟩ : Fin 512) := by
    funext a
    fin_cases a
    · exact Fin.ext (Nat.mod_eq_of_lt b.isLt)
    · rfl
  have hN : o.val / 512 < cfg0.N := lt_of_lt_of_eq (by omega) N_0.symm
  unfold Value.G14
  rw [dif_pos (by rw [hp]; exact hN), hl, ← outs_eq, Value.outsAt0_sweep m c _ hN]
  rw [Value.fold0_congr m c _ _ (o.val / 512) (by omega) hp]

end Points

end Cert.Delta

end
-- ==== Proof.Blocks.lean ====
module

public import proofs.«01_k».proof.Proof.Gen.KernelIdeal.Value
public import Idealize.ShloMosaic.Lib.Pipeline.ValueKit

/-! The blocks a grid point reads, as entries of the arguments. -/

@[expose] public section

set_option maxRecDepth 65536

noncomputable section

namespace Cert.Delta

open Idealize.ShloMosaic Idealize.ShloMosaic.TcCoe Idealize.ShloMosaic.Tactic
open Cert.KernelIdeal Cert.KernelIdeal.Gen

variable {F : FTy → Type} [FloatOps F]

theorem idx : ∀ t : Fin cfg0.N, win0_0.index t = ![0, 0] ∧ win0_1.index t = ![0, t.val] ∧ win0_2.index t = ![0, t.val]
    ∧ win0_3.index t = ![0, 0] ∧ win0_4.index t = ![0, 0] ∧ win0_5.index t = ![0, 0] ∧ win0_6.index t = ![0, t.val]
    ∧ win0_7.index t = ![0, t.val] ∧ win0_8.index t = ![0, t.val] ∧ win0_9.index t = ![0, 0] ∧ win0_10.index t = ![0, 0]
    ∧ win0_11.index t = ![0, 0] ∧ win0_12.index t = ![0, 0] ∧ win0_13.index t = ![0, 0] ∧ t.val < 10 :=
  (by decide +kernel : ∀ t : Fin grid0.N, _)

section Blocks
variable (m : (ℓ : Loc nD τ sig) → Buf (Elt Ideal) ℓ) (c : Dev nD) (t : Fin cfg0.N)

theorem blk0 (b : Fin 256) (k : Fin 16384) :
    iblk m c 0 t (ix2 b k) = m ((c : Thread nD τ).loc main_arg0) (ix3 (⟨b / 128, by omega⟩ : Fin 2) (⟨b % 128, by omega⟩ : Fin 128) k) := by
  have ht := (idx t).2.2.2.2.2.2.2.2.2.2.2.2.2.2
  blk_point [iblk, V, idx t]

theorem blk1 (k : Fin 8192) (o : Fin 512) :
    iblk m c 1 t (ix2 k o) = m ((c : Thread nD τ).loc main_arg1) (ix2 k (⟨512 * t.val + o.val, by have := (idx t).2.2.2.2.2.2.2.2.2.2.2.2.2.2; omega⟩ : Fin 5120)) := by
  have ht := (idx t).2.2.2.2.2.2.2.2.2.2.2.2.2.2
  blk_point [iblk, V, idx t]

theorem blk2 (k : Fin 128) (o : Fin 512) :
    iblk m c 2 t (ix2 k o) = m ((c : Thread nD τ).loc main_arg2) (ix2 k (⟨512 * t.val + o.val, by have := (idx t).2.2.2.2.2.2.2.2.2.2.2.2.2.2; omega⟩ : Fin 5120)) := by
  have ht := (idx t).2.2.2.2.2.2.2.2.2.2.2.2.2.2
  blk_point [iblk, V, idx t]

theorem blk3 (q : Fin 2) (k : Fin 16384) :
    iblk m c 3 t (ix2 q k) = m ((c : Thread nD τ).loc main_arg3) (ix2 k q) := by
  have ht := (idx t).2.2.2.2.2.2.2.2.2.2.2.2.2.2
  blk_point [iblk, V, idx t]

theorem blk4 (q : Fin 4) (k : Fin 16384) :
    iblk m c 4 t (ix2 q k) = m ((c : Thread nD τ).loc main_arg5) (ix2 k q) := by
  have ht := (idx t).2.2.2.2.2.2.2.2.2.2.2.2.2.2
  blk_point [iblk, V, idx t]

theorem blk5 (q : Fin 30) (k : Fin 16384) :
    iblk m c 5 t (ix2 q k) = m ((c : Thread nD τ).loc main_arg7) (ix2 k q) := by
  have ht := (idx t).2.2.2.2.2.2.2.2.2.2.2.2.2.2
  blk_point [iblk, V, idx t]

theorem blk6 (q : Fin 2) (o : Fin 512) :
    iblk m c 6 t (ix2 q o) = m ((c : Thread nD τ).loc main_arg4) (ix2 (⟨512 * t.val + o.val, by have := (idx t).2.2.2.2.2.2.2.2.2.2.2.2.2.2; omega⟩ : Fin 5120) q) := by
  have ht := (idx t).2.2.2.2.2.2.2.2.2.2.2.2.2.2
  blk_point [iblk, V, idx t]

theorem blk7 (q : Fin 4) (o : Fin 512) :
    iblk m c 7 t (ix2 q o) = m ((c : Thread nD τ).loc main_arg6) (ix2 (⟨512 * t.val + o.val, by have := (idx t).2.2.2.2.2.2.2.2.2.2.2.2.2.2; omega⟩ : Fin 5120) q) := by
  have ht := (idx t).2.2.2.2.2.2.2.2.2.2.2.2.2.2
  blk_point [iblk, V, idx t]

theorem blk8 (q : Fin 30) (o : Fin 512) :
    iblk m c 8 t (ix2 q o) = m ((c : Thread nD τ).loc main_arg8) (ix2 (⟨512 * t.val + o.val, by have := (idx t).2.2.2.2.2.2.2.2.2.2.2.2.2.2; omega⟩ : Fin 5120) q) := by
  have ht := (idx t).2.2.2.2.2.2.2.2.2.2.2.2.2.2
  blk_point [iblk, V, idx t]

theorem blk9 (r : Fin 512) :
    iblk m c 9 t (ix2 0 r) = m ((c : Thread nD τ).loc main_arg9) (ix1 r) := by
  have ht := (idx t).2.2.2.2.2.2.2.2.2.2.2.2.2.2
  blk_point [iblk, V, idx t]

theorem blk10 (r : Fin 512) :
    iblk m c 10 t (ix2 0 r) = m ((c : Thread nD τ).loc main_arg10) (ix1 r) := by
  have ht := (idx t).2.2.2.2.2.2.2.2.2.2.2.2.2.2
  blk_point [iblk, V, idx t]

theorem blk11 (r : Fin 510) :
    iblk m c 11 t (ix2 0 r) = m ((c : Thread nD τ).loc main_arg11) (ix1 r) := by
  have ht := (idx t).2.2.2.2.2.2.2.2.2.2.2.2.2.2
  blk_point [iblk, V, idx t]

theorem blk12 (r : Fin 510) :
    iblk m c 12 t (ix2 0 r) = m ((c : Thread nD τ).loc main_arg12) (ix1 r) := by
  have ht := (idx t).2.2.2.2.2.2.2.2.2.2.2.2.2.2
  blk_point [iblk, V, idx t]

theorem blk13 (r : Fin 512) :
    iblk m c 13 t (ix2 0 r) = m ((c : Thread nD τ).loc main_arg13) (ix1 r) := by
  have ht := (idx t).2.2.2.2.2.2.2.2.2.2.2.2.2.2
  blk_point [iblk, V, idx t]

end Blocks

end Cert.Delta

end
-- ==== Proof.RefTerm.lean ====
module

public import proofs.«01_k».proof.Proof.Fields
public import proofs.«01_k».proof.Proof.Gen.ReferenceIdeal.Run
public import Idealize.ShloMosaic.Lib.Pointwise

/-! The reference's composed term, cut into the arrays the plain formula names: the decoded weight, the unpacked factors, the
    coefficients and the coordinates. -/

@[expose] public section

set_option maxRecDepth 65536

noncomputable section

namespace Cert.Delta.Ref

open Idealize.ShloMosaic Idealize.ShloMosaic.TcCoe Idealize.ShloMosaic.Tactic Idealize.ShloMosaic.PackedFields
open Cert.ReferenceIdeal Cert.ReferenceIdeal.Gen

variable {F : FTy → Type} [FloatOps F]

/-- A byte array's 4-bit codes `q`, decoded and scaled group by group. -/
def weight (q : IVec S8192x5120 32) (sc : FVec F S128x5120 .bf16) : FVec F S8192x5120 .bf16 :=
  shapeCast _ (mulf (shapeCast _ (sitofp .bf16 (select (cmpi .sge q (broadcastInDim S8192x5120 ![] bcast_S_S8192x5120 (constantI S_ 32 8#32)))
    (subi q (broadcastInDim S8192x5120 ![] bcast_S_S8192x5120 (constantI S_ 32 16#32))) q)) shapeCasts_S8192x5120_S128x64x5120)
    (broadcastInDim S128x64x5120 ![0, 1, 2] bcast_S128x1x5120_S128x64x5120_0_1_2 (broadcastInDim S128x1x5120 ![0, 2] bcast_S128x5120_S128x1x5120_0_2 sc)))
    shapeCasts_S128x64x5120_S8192x5120

/-- The low and the high halves of the bytes. -/
def low (p : IVec S8192x5120 8) : IVec S8192x5120 32 :=
  andi (extui 32 p natLt_8_32) (broadcastInDim S8192x5120 ![] bcast_S_S8192x5120 (constantI S_ 32 15#32))
def high (p : IVec S8192x5120 8) : IVec S8192x5120 32 :=
  Host.shrsi (extui 32 p natLt_8_32) (broadcastInDim S8192x5120 ![] bcast_S_S8192x5120 (constantI S_ 32 4#32))

/-- The even and the odd columns of `x`. -/
def even (x : FVec F S2x128x16384 .bf16) : FVec F S2x128x8192 .bf16 :=
  shapeCast _ (extractStridedSlice S2x128x8192x1 ![0, 0, 0, 0] (shapeCast _ x shapeCasts_S2x128x16384_S2x128x8192x2) slices_S2x128x8192x2_S2x128x8192x1_0_0_0_0) shapeCasts_S2x128x8192x1_S2x128x8192
def odd (x : FVec F S2x128x16384 .bf16) : FVec F S2x128x8192 .bf16 :=
  shapeCast _ (extractStridedSlice S2x128x8192x1 ![0, 0, 0, 1] (shapeCast _ x shapeCasts_S2x128x16384_S2x128x8192x2) slices_S2x128x8192x2_S2x128x8192x1_0_0_0_1) shapeCasts_S2x128x8192x1_S2x128x8192

/-- The coefficients of all ranks. -/
def coef (vs us : FVec F S512 .bf16) (sg : FVec F S512 .f32) : FVec F S512 .f32 :=
  mulf (mulf (extf .f32 vs bitsLt_bf16_f32) sg) (extf .f32 us bitsLt_bf16_f32)

def coef8 (c : FVec F S512 .f32) : FVec F S2x128x2 .f32 :=
  broadcastInDim S2x128x2 ![0, 1, 2] bcast_S1x1x2_S2x128x2_0_1_2 (broadcastInDim S1x1x2 ![2] bcast_S2_S1x1x2_2 (extractStridedSlice S2 ![0] c slices_S512_S2_0))
def coef3 (c : FVec F S512 .f32) : FVec F S2x128x40 .f32 :=
  broadcastInDim S2x128x40 ![0, 1, 2] bcast_S1x1x40_S2x128x40_0_1_2 (broadcastInDim S1x1x40 ![2] bcast_S40_S1x1x40_2 (shapeCast _ (shapeCast _ (pad S40 ![0] ![8] ![0] (extractStridedSlice S32 ![2] c slices_S512_S32_2) (sitofp .f32 (constantI S_ 32 0#32)) pads_S32_S40_080 h_S_) shapeCasts_S40_S4x10) shapeCasts_S4x10_S40))
def coef2 (c : FVec F S512 .f32) : FVec F S2x128x480 .f32 :=
  broadcastInDim S2x128x480 ![0, 1, 2] bcast_S1x1x480_S2x128x480_0_1_2 (broadcastInDim S1x1x480 ![2] bcast_S480_S1x1x480_2 (shapeCast _ (shapeCast _ (pad S480 ![0] ![2] ![0] (extractStridedSlice S478 ![34] c slices_S512_S478_34) (sitofp .f32 (constantI S_ 32 0#32)) pads_S478_S480_020 h_S_) shapeCasts_S480_S30x16) shapeCasts_S30x16_S480))

/-- A factor of 16384 rows: its 8-bit ranks, its 3-bit ranks and its 2-bit ranks, with zero points `z`. -/
def v8 (w : IVec S16384x2 8) : FVec F S16384x2 .bf16 := sitofp .bf16 (extsi 32 w natLt_8_32)
def v3 (w : IVec S16384x4 32) (z : FVec F S510 .bf16) : FVec F S16384x40 .bf16 :=
  shapeCast _ (subf (sitofp .bf16 (andi (Host.shrsi (broadcastInDim S16384x4x10 ![0, 1, 2] bcast_S16384x4x1_S16384x4x10_0_1_2 (broadcastInDim S16384x4x1 ![0, 1] bcast_S16384x4_S16384x4x1_0_1 w)) (broadcastInDim S16384x4x10 ![0, 1, 2] bcast_S1x1x10_S16384x4x10_0_1_2 (broadcastInDim S1x1x10 ![2] bcast_S10_S1x1x10_2 (muli (iotaInDim S10 32 0) (broadcastInDim S10 ![] bcast_S_S10 (constantI S_ 32 3#32)))))) (broadcastInDim S16384x4x10 ![] bcast_S_S16384x4x10 (constantI S_ 32 7#32)))) (broadcastInDim S16384x4x10 ![0, 1, 2] bcast_S1x4x10_S16384x4x10_0_1_2 (broadcastInDim S1x4x10 ![1, 2] bcast_S4x10_S1x4x10_1_2 (shapeCast _ (pad S40 ![0] ![8] ![0] (extractStridedSlice S32 ![0] z slices_S510_S32_0) (sitofp .bf16 (constantI S_ 32 0#32)) pads_S32_S40_080 h_S_) shapeCasts_S40_S4x10)))) shapeCasts_S16384x4x10_S16384x40
def v2 (w : IVec S16384x30 32) (z : FVec F S510 .bf16) : FVec F S16384x480 .bf16 :=
  shapeCast _ (subf (sitofp .bf16 (andi (Host.shrsi (broadcastInDim S16384x30x16 ![0, 1, 2] bcast_S16384x30x1_S16384x30x16_0_1_2 (broadcastInDim S16384x30x1 ![0, 1] bcast_S16384x30_S16384x30x1_0_1 w)) (broadcastInDim S16384x30x16 ![0, 1, 2] bcast_S1x1x16_S16384x30x16_0_1_2 (broadcastInDim S1x1x16 ![2] bcast_S16_S1x1x16_2 (muli (iotaInDim S16 32 0) (broadcastInDim S16 ![] bcast_S_S16 (constantI S_ 32 2#32)))))) (broadcastInDim S16384x30x16 ![] bcast_S_S16384x30x16 (constantI S_ 32 3#32)))) (broadcastInDim S16384x30x16 ![0, 1, 2] bcast_S1x30x16_S16384x30x16_0_1_2 (broadcastInDim S1x30x16 ![1, 2] bcast_S30x16_S1x30x16_1_2 (shapeCast _ (pad S480 ![0] ![2] ![0] (extractStridedSlice S478 ![32] z slices_S510_S478_32) (sitofp .bf16 (constantI S_ 32 0#32)) pads_S478_S480_020 h_S_) shapeCasts_S480_S30x16)))) shapeCasts_S16384x30x16_S16384x480

/-- A factor of 5120 rows: its 8-bit ranks, its 3-bit ranks and its 2-bit ranks, with zero points `z`. -/
def u8 (w : IVec S5120x2 8) : FVec F S5120x2 .bf16 := sitofp .bf16 (extsi 32 w natLt_8_32)
def u3 (w : IVec S5120x4 32) (z : FVec F S510 .bf16) : FVec F S5120x40 .bf16 :=
  shapeCast _ (subf (sitofp .bf16 (andi (Host.shrsi (broadcastInDim S5120x4x10 ![0, 1, 2] bcast_S5120x4x1_S5120x4x10_0_1_2 (broadcastInDim S5120x4x1 ![0, 1] bcast_S5120x4_S5120x4x1_0_1 w)) (broadcastInDim S5120x4x10 ![0, 1, 2] bcast_S1x1x10_S5120x4x10_0_1_2 (broadcastInDim S1x1x10 ![2] bcast_S10_S1x1x10_2 (muli (iotaInDim S10 32 0) (broadcastInDim S10 ![] bcast_S_S10 (constantI S_ 32 3#32)))))) (broadcastInDim S5120x4x10 ![] bcast_S_S5120x4x10 (constantI S_ 32 7#32)))) (broadcastInDim S5120x4x10 ![0, 1, 2] bcast_S1x4x10_S5120x4x10_0_1_2 (broadcastInDim S1x4x10 ![1, 2] bcast_S4x10_S1x4x10_1_2 (shapeCast _ (pad S40 ![0] ![8] ![0] (extractStridedSlice S32 ![0] z slices_S510_S32_0) (sitofp .bf16 (constantI S_ 32 0#32)) pads_S32_S40_080 h_S_) shapeCasts_S40_S4x10)))) shapeCasts_S5120x4x10_S5120x40
def u2 (w : IVec S5120x30 32) (z : FVec F S510 .bf16) : FVec F S5120x480 .bf16 :=
  shapeCast _ (subf (sitofp .bf16 (andi (Host.shrsi (broadcastInDim S5120x30x16 ![0, 1, 2] bcast_S5120x30x1_S5120x30x16_0_1_2 (broadcastInDim S5120x30x1 ![0, 1] bcast_S5120x30_S5120x30x1_0_1 w)) (broadcastInDim S5120x30x16 ![0, 1, 2] bcast_S1x1x16_S5120x30x16_0_1_2 (broadcastInDim S1x1x16 ![2] bcast_S16_S1x1x16_2 (muli (iotaInDim S16 32 0) (broadcastInDim S16 ![] bcast_S_S16 (constantI S_ 32 2#32)))))) (broadcastInDim S5120x30x16 ![] bcast_S_S5120x30x16 (constantI S_ 32 3#32)))) (broadcastInDim S5120x30x16 ![0, 1, 2] bcast_S1x30x16_S5120x30x16_0_1_2 (broadcastInDim S1x30x16 ![1, 2] bcast_S30x16_S1x30x16_1_2 (shapeCast _ (pad S480 ![0] ![2] ![0] (extractStridedSlice S478 ![32] z slices_S510_S478_32) (sitofp .bf16 (constantI S_ 32 0#32)) pads_S478_S480_020 h_S_) shapeCasts_S480_S30x16)))) shapeCasts_S5120x30x16_S5120x480

/-- The 8-bit ranks' part of the adapter's product. -/
def delta8 (x : FVec F S2x128x16384 .bf16) (v : FVec F S16384x2 .bf16) (cf : FVec F S2x128x2 .f32) (u : FVec F S5120x2 .bf16) :
    FVec F S2x128x5120 .f32 :=
  Host.dotGeneral dot_S2x128x2_S5120x2_S2x128x5120_2_1_01_0_n_n none (truncf .bf16 (mulf (Host.dotGeneral dot_S2x128x16384_S16384x2_S2x128x2_2_0_01_1_n_n none x v) cf) bitsLt_bf16_f32) u

/-- The 3-bit ranks' part of the adapter's product. -/
def delta3 (x : FVec F S2x128x16384 .bf16) (v : FVec F S16384x40 .bf16) (cf : FVec F S2x128x40 .f32) (u : FVec F S5120x40 .bf16) :
    FVec F S2x128x5120 .f32 :=
  Host.dotGeneral dot_S2x128x40_S5120x40_S2x128x5120_2_1_01_0_n_n none (truncf .bf16 (mulf (Host.dotGeneral dot_S2x128x16384_S16384x40_S2x128x40_2_0_01_1_n_n none x v) cf) bitsLt_bf16_f32) u

/-- The 2-bit ranks' part of the adapter's product. -/
def delta2 (x : FVec F S2x128x16384 .bf16) (v : FVec F S16384x480 .bf16) (cf : FVec F S2x128x480 .f32) (u : FVec F S5120x480 .bf16) :
    FVec F S2x128x5120 .f32 :=
  Host.dotGeneral dot_S2x128x480_S5120x480_S2x128x5120_2_1_01_0_n_n none (truncf .bf16 (mulf (Host.dotGeneral dot_S2x128x16384_S16384x480_S2x128x480_2_0_01_1_n_n none x v) cf) bitsLt_bf16_f32) u

/-- The two halves of the quantized weight's product. -/
def base (x : FVec F S2x128x8192 .bf16) (w : FVec F S8192x5120 .bf16) : FVec F S2x128x5120 .f32 :=
  Host.dotGeneral dot_S2x128x8192_S8192x5120_S2x128x5120_2_0_01_1_n_n none x w

section Res
variable (m : (ℓ : Loc nD τ sig) → Buf (Elt F) ℓ) (c : Dev nD)

/-- The arguments, as arrays. -/
abbrev X : FVec F S2x128x16384 .bf16 := m ((c.tc : Thread nD τ).loc main_arg0)
abbrev W : IVec S8192x5120 8 := m ((c.tc : Thread nD τ).loc main_arg1)
abbrev SC : FVec F S128x5120 .bf16 := m ((c.tc : Thread nD τ).loc main_arg2)
abbrev CF : FVec F S512 .f32 := coef (m ((c.tc : Thread nD τ).loc main_arg9)) (m ((c.tc : Thread nD τ).loc main_arg10)) (m ((c.tc : Thread nD τ).loc main_arg13))

/-- The reference's result is the sum of the five products. -/
theorem res_eq : Cert.ReferenceIdeal.Value.res_main_v145 m c
    = shapeCast _ (truncf .bf16 (addf (addf (addf (addf (base (even (X m c)) (weight (low (W m c)) (SC m c)))
        (base (odd (X m c)) (weight (high (W m c)) (SC m c))))
        (delta8 (X m c) (v8 (m ((c.tc : Thread nD τ).loc main_arg3))) (coef8 (CF m c)) (u8 (m ((c.tc : Thread nD τ).loc main_arg4)))))
        (delta3 (X m c) (v3 (m ((c.tc : Thread nD τ).loc main_arg5)) (m ((c.tc : Thread nD τ).loc main_arg11))) (coef3 (CF m c))
          (u3 (m ((c.tc : Thread nD τ).loc main_arg6)) (m ((c.tc : Thread nD τ).loc main_arg12)))))
        (delta2 (X m c) (v2 (m ((c.tc : Thread nD τ).loc main_arg7)) (m ((c.tc : Thread nD τ).loc main_arg11))) (coef2 (CF m c))
          (u2 (m ((c.tc : Thread nD τ).loc main_arg8)) (m ((c.tc : Thread nD τ).loc main_arg12))))) bitsLt_bf16_f32)
        shapeCasts_S2x128x5120_S256x5120 := by
  unfold Cert.ReferenceIdeal.Value.res_main_v145
  rfl

end Res

end Cert.Delta.Ref

end
-- ==== Proof.RefVal.lean ====
module

public import proofs.«01_k».proof.Proof.RefTerm
public import proofs.«01_k».proof.Proof.Words

/-! The reference's arrays, entry by entry. -/

@[expose] public section

set_option maxRecDepth 65536

noncomputable section

namespace Cert.Delta.Ref

open Idealize.ShloMosaic Idealize.ShloMosaic.TcCoe Idealize.ShloMosaic.Tactic Idealize.ShloMosaic.PackedFields
open Cert.ReferenceIdeal Cert.ReferenceIdeal.Gen

theorem even_at (x : FVec Ideal S2x128x16384 .bf16) (a : Fin 2) (b : Fin 128) (k : Fin 8192) :
    even x (ix3 a b k) = x (ix3 a b (⟨2 * k, by omega⟩ : Fin 16384)) := by
  unfold even
  pointwise []
  refine congrArg (fun q => x (ix3 a b q)) (Fin.ext ?_)
  dsimp only
  omega

theorem odd_at (x : FVec Ideal S2x128x16384 .bf16) (a : Fin 2) (b : Fin 128) (k : Fin 8192) :
    odd x (ix3 a b k) = x (ix3 a b (⟨2 * k + 1, by omega⟩ : Fin 16384)) := by
  unfold odd
  pointwise []
  refine congrArg (fun q => x (ix3 a b q)) (Fin.ext ?_)
  dsimp only
  omega

theorem base_at (x : FVec Ideal S2x128x8192 .bf16) (w : FVec Ideal S8192x5120 .bf16) (a : Fin 2) (b : Fin 128) (o : Fin 5120) :
    base x w (ix3 a b o) = ∑ k : Fin 8192, x (ix3 a b k) * w (ix2 k o) := by
  unfold base
  pointwise []

theorem zero_word : (FloatOps.sitofp .f32 0#32 : Ideal .f32) = (0 : EReal) := by
  show (((0#32).toInt : ℝ) : EReal) = 0
  simp

theorem zero_word' : (FloatOps.sitofp .bf16 0#32 : Ideal .bf16) = (0 : EReal) := by
  show (((0#32).toInt : ℝ) : EReal) = 0
  simp

theorem ofInt (w : BitVec 32) : (FloatOps.sitofp .bf16 w : Ideal .bf16) = ((w.toInt : ℝ) : EReal) := rfl

/-- A half-byte's word, decoded. -/
def decoded (q : BitVec 32) : BitVec 32 := Scalar.select (IntOp.cmpi .sge q 8#32) (IntOp.subi q 16#32) q

theorem decoded_low : ∀ b : Fin 256, (decoded (IntOp.andi ((BitVec.ofNat 8 b).setWidth 32) 15#32)).toInt
    = if 8 ≤ b.val / 16 ^ 0 % 16 then ((b.val / 16 ^ 0 % 16 : Nat) : Int) - 16 else ((b.val / 16 ^ 0 % 16 : Nat) : Int) := by
  decide +kernel

theorem decoded_high : ∀ b : Fin 256, (decoded (IntOp.shrsi .host ((BitVec.ofNat 8 b).setWidth 32) 4#32)).toInt
    = if 8 ≤ b.val / 16 ^ 1 % 16 then ((b.val / 16 ^ 1 % 16 : Nat) : Int) - 16 else ((b.val / 16 ^ 1 % 16 : Nat) : Int) := by
  decide +kernel

theorem cast_nib (b : BitVec 8) (h : Nat) (z : Int)
    (e : z = if 8 ≤ b.toNat / 16 ^ h % 16 then ((b.toNat / 16 ^ h % 16 : Nat) : Int) - 16 else ((b.toNat / 16 ^ h % 16 : Nat) : Int)) :
    ((z : ℝ)) = nib b h := by
  rw [e]
  unfold nib
  split <;> push_cast <;> rfl

theorem low_nib (b : BitVec 8) : (((decoded (IntOp.andi (b.setWidth 32) 15#32)).toInt : ℝ)) = nib b 0 := by
  have e := decoded_low ⟨b.toNat, b.isLt⟩
  rw [show BitVec.ofNat 8 b.toNat = b from BitVec.ofNat_toNat 8 b |>.trans (by simp)] at e
  exact cast_nib b 0 _ e

theorem high_nib (b : BitVec 8) : (((decoded (IntOp.shrsi .host (b.setWidth 32) 4#32)).toInt : ℝ)) = nib b 1 := by
  have e := decoded_high ⟨b.toNat, b.isLt⟩
  rw [show BitVec.ofNat 8 b.toNat = b from BitVec.ofNat_toNat 8 b |>.trans (by simp)] at e
  exact cast_nib b 1 _ e

theorem weight_at (q : IVec S8192x5120 32) (sc : FVec Ideal S128x5120 .bf16) (k : Fin 8192) (o : Fin 5120) :
    weight q sc (ix2 k o) = (((decoded (q (ix2 k o))).toInt : ℝ) : EReal) * sc (ix2 (⟨k / 64, by omega⟩ : Fin 128) o) := by
  unfold weight
  pointwise []
  rfl

theorem low_at (p : IVec S8192x5120 8) (sc : FVec Ideal S128x5120 .bf16) (k : Fin 8192) (o : Fin 5120) :
    weight (low p) sc (ix2 k o) = ((nib (p (ix2 k o)) 0 : ℝ) : EReal) * sc (ix2 (⟨k / 64, by omega⟩ : Fin 128) o) := by
  rw [weight_at, ← low_nib]
  rfl

theorem high_at (p : IVec S8192x5120 8) (sc : FVec Ideal S128x5120 .bf16) (k : Fin 8192) (o : Fin 5120) :
    weight (high p) sc (ix2 k o) = ((nib (p (ix2 k o)) 1 : ℝ) : EReal) * sc (ix2 (⟨k / 64, by omega⟩ : Fin 128) o) := by
  rw [weight_at, ← high_nib]
  rfl

theorem coef8_at (c : FVec Ideal S512 .f32) (a : Fin 2) (b : Fin 128) (j : Fin 2) :
    coef8 c (ix3 a b j) = c (ix1 (⟨j, by omega⟩ : Fin 512)) := by
  unfold coef8
  pointwise []

theorem coef3_at (c : FVec Ideal S512 .f32) (a : Fin 2) (b : Fin 128) (j : Fin 40) :
    coef3 c (ix3 a b j) = if h : j.val < 32 then c (ix1 (⟨2 + j, by omega⟩ : Fin 512)) else 0 := by
  unfold coef3
  pointwise []
  rw [zero_word]

theorem coef2_at (c : FVec Ideal S512 .f32) (a : Fin 2) (b : Fin 128) (j : Fin 480) :
    coef2 c (ix3 a b j) = if h : j.val < 478 then c (ix1 (⟨34 + j, by omega⟩ : Fin 512)) else 0 := by
  unfold coef2
  pointwise []
  rw [zero_word]

theorem v8_at (w : IVec S16384x2 8) (k : Fin 16384) (j : Fin 2) : v8 (F := Ideal) w (ix2 k j) = (((w (ix2 k j)).toInt : ℝ) : EReal) := by
  unfold v8
  pointwise []
  rw [ofInt, BitVec.toInt_signExtend_of_le (by decide)]

theorem v3_at (w : IVec S16384x4 32) (z : FVec Ideal S510 .bf16) (k : Fin 16384) (j : Fin 40) : v3 w z (ix2 k j)
    = ((field 3 (j % 10) (w (ix2 k (⟨j / 10, by omega⟩ : Fin 4))).toNat : ℝ) : EReal)
      - if h : j.val < 32 then z (ix1 (⟨j, by omega⟩ : Fin 510)) else 0 := by
  unfold v3
  pointwise []
  have e : IntOp.muli (BitVec.ofNat 32 (j.val % 10)) 3#32 = BitVec.ofNat 32 (3 * (j.val % 10)) := by
    show BitVec.ofNat 32 (j.val % 10) * BitVec.ofNat 32 3 = _
    rw [← BitVec.ofNat_mul, Nat.mul_comm]
  rw [zero_word', ofInt, e, toInt_three _ _ _ (Nat.mod_lt _ (by decide))]
  rw [Int.cast_natCast]

theorem v2_at (w : IVec S16384x30 32) (z : FVec Ideal S510 .bf16) (k : Fin 16384) (j : Fin 480) : v2 w z (ix2 k j)
    = ((field 2 (j % 16) (w (ix2 k (⟨j / 16, by omega⟩ : Fin 30))).toNat : ℝ) : EReal)
      - if h : j.val < 478 then z (ix1 (⟨32 + j, by omega⟩ : Fin 510)) else 0 := by
  unfold v2
  pointwise []
  have e : IntOp.muli (BitVec.ofNat 32 (j.val % 16)) 2#32 = BitVec.ofNat 32 (2 * (j.val % 16)) := by
    show BitVec.ofNat 32 (j.val % 16) * BitVec.ofNat 32 2 = _
    rw [← BitVec.ofNat_mul, Nat.mul_comm]
  rw [zero_word', ofInt, e, toInt_two _ _ _ (Nat.mod_lt _ (by decide))]
  rw [Int.cast_natCast]

theorem u8_at (w : IVec S5120x2 8) (k : Fin 5120) (j : Fin 2) : u8 (F := Ideal) w (ix2 k j) = (((w (ix2 k j)).toInt : ℝ) : EReal) := by
  unfold u8
  pointwise []
  rw [ofInt, BitVec.toInt_signExtend_of_le (by decide)]

theorem u3_at (w : IVec S5120x4 32) (z : FVec Ideal S510 .bf16) (k : Fin 5120) (j : Fin 40) : u3 w z (ix2 k j)
    = ((field 3 (j % 10) (w (ix2 k (⟨j / 10, by omega⟩ : Fin 4))).toNat : ℝ) : EReal)
      - if h : j.val < 32 then z (ix1 (⟨j, by omega⟩ : Fin 510)) else 0 := by
  unfold u3
  pointwise []
  have e : IntOp.muli (BitVec.ofNat 32 (j.val % 10)) 3#32 = BitVec.ofNat 32 (3 * (j.val % 10)) := by
    show BitVec.ofNat 32 (j.val % 10) * BitVec.ofNat 32 3 = _
    rw [← BitVec.ofNat_mul, Nat.mul_comm]
  rw [zero_word', ofInt, e, toInt_three _ _ _ (Nat.mod_lt _ (by decide))]
  rw [Int.cast_natCast]

theorem u2_at (w : IVec S5120x30 32) (z : FVec Ideal S510 .bf16) (k : Fin 5120) (j : Fin 480) : u2 w z (ix2 k j)
    = ((field 2 (j % 16) (w (ix2 k (⟨j / 16, by omega⟩ : Fin 30))).toNat : ℝ) : EReal)
      - if h : j.val < 478 then z (ix1 (⟨32 + j, by omega⟩ : Fin 510)) else 0 := by
  unfold u2
  pointwise []
  have e : IntOp.muli (BitVec.ofNat 32 (j.val % 16)) 2#32 = BitVec.ofNat 32 (2 * (j.val % 16)) := by
    show BitVec.ofNat 32 (j.val % 16) * BitVec.ofNat 32 2 = _
    rw [← BitVec.ofNat_mul, Nat.mul_comm]
  rw [zero_word', ofInt, e, toInt_two _ _ _ (Nat.mod_lt _ (by decide))]
  rw [Int.cast_natCast]

theorem delta8_at (x : FVec Ideal S2x128x16384 .bf16) (v : FVec Ideal S16384x2 .bf16) (cf : FVec Ideal S2x128x2 .f32)
    (u : FVec Ideal S5120x2 .bf16) (a : Fin 2) (b : Fin 128) (o : Fin 5120) :
    delta8 x v cf u (ix3 a b o) = ∑ j : Fin 2, (∑ k : Fin 16384, x (ix3 a b k) * v (ix2 k j)) * cf (ix3 a b j) * u (ix2 o j) := by
  unfold delta8
  pointwise []

theorem delta3_at (x : FVec Ideal S2x128x16384 .bf16) (v : FVec Ideal S16384x40 .bf16) (cf : FVec Ideal S2x128x40 .f32)
    (u : FVec Ideal S5120x40 .bf16) (a : Fin 2) (b : Fin 128) (o : Fin 5120) :
    delta3 x v cf u (ix3 a b o) = ∑ j : Fin 40, (∑ k : Fin 16384, x (ix3 a b k) * v (ix2 k j)) * cf (ix3 a b j) * u (ix2 o j) := by
  unfold delta3
  pointwise []

theorem delta2_at (x : FVec Ideal S2x128x16384 .bf16) (v : FVec Ideal S16384x480 .bf16) (cf : FVec Ideal S2x128x480 .f32)
    (u : FVec Ideal S5120x480 .bf16) (a : Fin 2) (b : Fin 128) (o : Fin 5120) :
    delta2 x v cf u (ix3 a b o) = ∑ j : Fin 480, (∑ k : Fin 16384, x (ix3 a b k) * v (ix2 k j)) * cf (ix3 a b j) * u (ix2 o j) := by
  unfold delta2
  pointwise []

end Cert.Delta.Ref

end
-- ==== Proof.Formula.lean ====
module

public import proofs.«01_k».proof.Proof.Words

/-! The formula both programs compute, at one row and one column, and the sums that lead to it. -/

@[expose] public section

set_option maxRecDepth 65536

noncomputable section

namespace Cert.Delta

open Idealize.ShloMosaic Idealize.ShloMosaic.PackedFields

/-- The zero point of rank `r`, none for the two first ranks. -/
def zeroOf (z : Fin 510 → EReal) (r : Nat) : EReal := if 2 ≤ r then z (Fin.ofNat 510 (r - 2)) else 0

/-- The quantized weight's product. -/
def baseSum (x : Fin 16384 → EReal) (p : Fin 8192 → BitVec 8) (sc : Fin 128 → EReal) : EReal :=
  ∑ k : Fin 16384, x k * (((nib (p (⟨k / 2, by omega⟩ : Fin 8192)) (k % 2) : ℝ) : EReal) * sc (⟨k / 128, by omega⟩ : Fin 128))

/-- Rank `r`'s part of the adapter's product. -/
def rankPart (x : Fin 16384 → EReal) (v2 : Fin 16384 → Fin 30 → BitVec 32) (v3 : Fin 16384 → Fin 4 → BitVec 32)
    (v8 : Fin 16384 → Fin 2 → BitVec 8) (u2 : Fin 30 → BitVec 32) (u3 : Fin 4 → BitVec 32) (u8 : Fin 2 → BitVec 8)
    (vz uz : Fin 510 → EReal) (cf : Fin 512 → EReal) (r : Fin 512) : EReal :=
  (∑ k : Fin 16384, x k * entry (v2 k) (v3 k) (v8 k) (zeroOf vz r) r) * cf r * entry u2 u3 u8 (zeroOf uz r) r

/-- The ranks in three runs: 8 bits, 3 bits, 2 bits. -/
theorem sum_ranks (f : Fin 512 → EReal) : ∑ r : Fin 512, f r
    = (∑ j : Fin 2, f ⟨j, by omega⟩) + (∑ j : Fin 32, f ⟨2 + j, by omega⟩) + ∑ j : Fin 478, f ⟨34 + j, by omega⟩ := by
  have h1 := Fin.sum_univ_add (a := 34) (b := 478) f
  have h2 := Fin.sum_univ_add (a := 2) (b := 32) (fun j : Fin 34 => f ⟨j, by omega⟩)
  exact h1.trans (congrArg (fun y => y + _) h2)

/-- A sum whose terms vanish past the first `a`. -/
theorem sum_cut (a b n : Nat) (hn : a + b = n) (f : Fin n → EReal) (h : ∀ j : Fin n, a ≤ j.val → f j = 0) :
    ∑ j : Fin n, f j = ∑ j : Fin a, f ⟨j, by omega⟩ := by
  subst hn
  rw [Fin.sum_univ_add, Finset.sum_eq_zero (s := (Finset.univ : Finset (Fin b))) fun j _ => h _ (Nat.le_add_right a j), add_zero]
  rfl

/-- Even and odd terms of a sum. -/
theorem sum_pairs (f : Fin 16384 → EReal) : ∑ k : Fin 16384, f k
    = (∑ j : Fin 8192, f ⟨2 * j, by omega⟩) + ∑ j : Fin 8192, f ⟨2 * j + 1, by omega⟩ := by
  rw [Fin.sum_univ_tiles 8192 2 rfl, ← Finset.sum_add_distrib]
  refine Finset.sum_congr rfl fun n _ => ?_
  rw [Fin.sum_univ_two]
  refine congrArg₂ (· + ·) (congrArg f (Fin.ext ?_)) (congrArg f (Fin.ext ?_))
  · show n.val * 2 + 0 = 2 * n.val; omega
  · show n.val * 2 + 1 = 2 * n.val + 1; omega

theorem rank_bound : ∀ s : Fin 512, rank s < 512 := by decide +kernel

theorem rank_onto : ∀ r : Fin 512, ∃ s : Fin 512, rank s = r := by decide +kernel

/-- The slots are the ranks in another order. -/
theorem sum_slots (f : Fin 512 → EReal) : ∑ s : Fin 512, f ⟨rank s, rank_bound s⟩ = ∑ r : Fin 512, f r := by
  have hs : Function.Surjective fun s : Fin 512 => (⟨rank s, rank_bound s⟩ : Fin 512) := fun r =>
    (rank_onto r).imp fun s hs => Fin.ext hs
  exact Function.Bijective.sum_comp ⟨Finite.injective_iff_surjective.2 hs, hs⟩ f

end Cert.Delta

end
-- ==== Proof.RefSum.lean ====
module

public import proofs.«01_k».proof.Proof.RefVal
public import proofs.«01_k».proof.Proof.Formula

/-! The reference's result is the formula. -/

@[expose] public section

set_option maxRecDepth 65536

noncomputable section

namespace Cert.Delta.Ref

open Idealize.ShloMosaic Idealize.ShloMosaic.TcCoe Idealize.ShloMosaic.Tactic Idealize.ShloMosaic.PackedFields
open Cert.ReferenceIdeal Cert.ReferenceIdeal.Gen

theorem base_sum (x : FVec Ideal S2x128x16384 .bf16) (p : IVec S8192x5120 8) (sc : FVec Ideal S128x5120 .bf16) (a : Fin 2) (b : Fin 128)
    (o : Fin 5120) :
    (base (even x) (weight (low p) sc) (ix3 a b o) + base (odd x) (weight (high p) sc) (ix3 a b o) : EReal)
      = baseSum (fun k => x (ix3 a b k)) (fun k => p (ix2 k o)) (fun g => sc (ix2 g o)) := by
  unfold baseSum
  rw [base_at, base_at, sum_pairs]
  refine congrArg₂ (· + ·) (Finset.sum_congr rfl fun k _ => ?_) (Finset.sum_congr rfl fun k _ => ?_)
  · rw [even_at, low_at]
    have e1 : (⟨2 * k.val / 2, by omega⟩ : Fin 8192) = k := Fin.ext (by show 2 * k.val / 2 = k.val; omega)
    have e2 : (⟨2 * k.val / 128, by omega⟩ : Fin 128) = ⟨k / 64, by omega⟩ := Fin.ext (by show 2 * k.val / 128 = k.val / 64; omega)
    have e3 : 2 * k.val % 2 = 0 := by omega
    dsimp only
    rw [e1, e2, e3]
  · rw [odd_at, high_at]
    have e1 : (⟨(2 * k.val + 1) / 2, by omega⟩ : Fin 8192) = k := Fin.ext (by show (2 * k.val + 1) / 2 = k.val; omega)
    have e2 : (⟨(2 * k.val + 1) / 128, by omega⟩ : Fin 128) = ⟨k / 64, by omega⟩ :=
      Fin.ext (by show (2 * k.val + 1) / 128 = k.val / 64; omega)
    have e3 : (2 * k.val + 1) % 2 = 1 := by omega
    dsimp only
    rw [e1, e2, e3]

/-! ### Entries by rank -/

theorem entry8 (a2 : Fin 30 → BitVec 32) (a3 : Fin 4 → BitVec 32) (a8 : Fin 2 → BitVec 8) (z : EReal) (j : Fin 2) :
    entry a2 a3 a8 z j.val = (((a8 j).toInt : ℝ) : EReal) := by
  have e : Fin.ofNat 2 j.val = j := Fin.ext (Nat.mod_eq_of_lt j.isLt)
  unfold entry code
  rw [if_pos j.isLt, if_pos j.isLt, e]

theorem entry3 (a2 : Fin 30 → BitVec 32) (a3 : Fin 4 → BitVec 32) (a8 : Fin 2 → BitVec 8) (z : Fin 510 → EReal) (j : Fin 32) :
    entry a2 a3 a8 (zeroOf z (2 + j.val)) (2 + j.val)
      = ((field 3 (j % 10) (a3 (⟨j / 10, by omega⟩ : Fin 4)).toNat : ℝ) : EReal) - z ⟨j, by omega⟩ := by
  have e : Fin.ofNat 4 ((2 + j.val - 2) / 10) = (⟨j / 10, by omega⟩ : Fin 4) := Fin.ext (by show (2 + j.val - 2) / 10 % 4 = j.val / 10; omega)
  have e' : Fin.ofNat 510 (2 + j.val - 2) = (⟨j, by omega⟩ : Fin 510) := Fin.ext (by show (2 + j.val - 2) % 510 = j.val; omega)
  have e2 : 2 + j.val - 2 = j.val := by omega
  unfold entry code zeroOf
  rw [if_neg (by omega), if_neg (by omega), if_pos (by omega), if_pos (by omega), e, e', e2]

theorem entry2 (a2 : Fin 30 → BitVec 32) (a3 : Fin 4 → BitVec 32) (a8 : Fin 2 → BitVec 8) (z : Fin 510 → EReal) (j : Fin 478) :
    entry a2 a3 a8 (zeroOf z (34 + j.val)) (34 + j.val)
      = ((field 2 (j % 16) (a2 (⟨j / 16, by omega⟩ : Fin 30)).toNat : ℝ) : EReal) - z ⟨32 + j, by omega⟩ := by
  have e : Fin.ofNat 30 ((34 + j.val - 34) / 16) = (⟨j / 16, by omega⟩ : Fin 30) := Fin.ext (by show (34 + j.val - 34) / 16 % 30 = j.val / 16; omega)
  have e' : Fin.ofNat 510 (34 + j.val - 2) = (⟨32 + j, by omega⟩ : Fin 510) := Fin.ext (by show (34 + j.val - 2) % 510 = 32 + j.val; omega)
  have e2 : 34 + j.val - 34 = j.val := by omega
  unfold entry code zeroOf
  rw [if_neg (by omega), if_neg (by omega), if_neg (by omega), if_pos (by omega), e, e', e2]

section Parts
variable (x : FVec Ideal S2x128x16384 .bf16) (vw8 : IVec S16384x2 8) (uw8 : IVec S5120x2 8) (vw3 : IVec S16384x4 32) (uw3 : IVec S5120x4 32)
  (vw2 : IVec S16384x30 32) (uw2 : IVec S5120x30 32) (vz uz : FVec Ideal S510 .bf16) (cf : FVec Ideal S512 .f32)
  (a : Fin 2) (b : Fin 128) (o : Fin 5120)

/-- Rank `r`'s part, from the reference's arrays. -/
def part (r : Fin 512) : EReal :=
  rankPart (fun k => x (ix3 a b k)) (fun k q => vw2 (ix2 k q)) (fun k q => vw3 (ix2 k q)) (fun k q => vw8 (ix2 k q))
    (fun q => uw2 (ix2 o q)) (fun q => uw3 (ix2 o q)) (fun q => uw8 (ix2 o q)) (fun q => vz (ix1 q)) (fun q => uz (ix1 q))
    (fun r => cf (ix1 r)) r

theorem delta8_sum : (delta8 x (v8 vw8) (coef8 cf) (u8 uw8) (ix3 a b o) : EReal)
    = ∑ j : Fin 2, part x vw8 uw8 vw3 uw3 vw2 uw2 vz uz cf a b o ⟨j, by omega⟩ := by
  rw [delta8_at]
  refine Finset.sum_congr rfl fun j _ => ?_
  unfold part rankPart
  dsimp only
  rw [coef8_at, u8_at, entry8]
  refine congrArg (fun y => y * _ * _) (Finset.sum_congr rfl fun k _ => ?_)
  rw [v8_at, entry8]

theorem delta3_sum : (delta3 x (v3 vw3 vz) (coef3 cf) (u3 uw3 uz) (ix3 a b o) : EReal)
    = ∑ j : Fin 32, part x vw8 uw8 vw3 uw3 vw2 uw2 vz uz cf a b o ⟨2 + j, by omega⟩ := by
  rw [delta3_at, sum_cut 32 8 40 rfl]
  · refine Finset.sum_congr rfl fun j _ => ?_
    unfold part rankPart
    dsimp only
    rw [coef3_at, u3_at, entry3, dif_pos j.isLt, dif_pos j.isLt]
    refine congrArg (fun y => y * _ * _) (Finset.sum_congr rfl fun k _ => ?_)
    rw [v3_at, entry3, dif_pos j.isLt]
  · intro j hj
    rw [coef3_at, dif_neg (by omega), mul_zero, zero_mul]

theorem delta2_sum : (delta2 x (v2 vw2 vz) (coef2 cf) (u2 uw2 uz) (ix3 a b o) : EReal)
    = ∑ j : Fin 478, part x vw8 uw8 vw3 uw3 vw2 uw2 vz uz cf a b o ⟨34 + j, by omega⟩ := by
  rw [delta2_at, sum_cut 478 2 480 rfl]
  · refine Finset.sum_congr rfl fun j _ => ?_
    unfold part rankPart
    dsimp only
    rw [coef2_at, u2_at, entry2, dif_pos j.isLt, dif_pos j.isLt]
    refine congrArg (fun y => y * _ * _) (Finset.sum_congr rfl fun k _ => ?_)
    rw [v2_at, entry2, dif_pos j.isLt]
  · intro j hj
    rw [coef2_at, dif_neg (by omega), mul_zero, zero_mul]

end Parts

section Res
variable (m : (ℓ : Loc nD τ sig) → Buf (Elt Ideal) ℓ) (c : Dev nD)

/-- The reference's result at row `b`, column `o`. -/
theorem res_at (b : Fin 256) (o : Fin 5120) : Cert.ReferenceIdeal.Value.res_main_v145 m c (ix2 b o)
    = (baseSum (fun k => X m c (ix3 (⟨b / 128, by omega⟩ : Fin 2) (⟨b % 128, by omega⟩ : Fin 128) k)) (fun k => W m c (ix2 k o))
        (fun g => SC m c (ix2 g o))
      + ∑ r : Fin 512, part (X m c) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg11)) (m ((c.tc : Thread nD τ).loc main_arg12))
          (CF m c) (⟨b / 128, by omega⟩ : Fin 2) (⟨b % 128, by omega⟩ : Fin 128) o r : EReal) := by
  rw [res_eq]
  generalize X m c = x, W m c = w, SC m c = sc, CF m c = cf
  rw [← base_sum, sum_ranks, ← delta8_sum, ← delta3_sum, ← delta2_sum]
  generalize base (even x) (weight (low w) sc) = y1, base (odd x) (weight (high w) sc) = y2
  generalize delta8 x _ _ _ = y3, delta3 x _ _ _ = y4, delta2 x _ _ _ = y5
  pointwise []
  simp only [add_assoc]

end Res

end Cert.Delta.Ref

end
-- ==== Proof.Equation.lean ====
module

public import proofs.«01_k».proof.Proof.State
public import proofs.«01_k».proof.Proof.Blocks
public import proofs.«01_k».proof.Proof.RefSum

/-! The kernel's result is the formula, and so the two programs' results are equal. -/

@[expose] public section

set_option maxRecDepth 65536

noncomputable section

namespace Cert.Delta

open Idealize.ShloMosaic Idealize.ShloMosaic.TcCoe Idealize.ShloMosaic.Tactic Idealize.ShloMosaic.PackedFields
open Cert.KernelIdeal Cert.KernelIdeal.Gen

section Tile
variable (x0 : Vec Ideal S256x16384 .bf16) (x1 : Vec Ideal S8192x512 .i8) (x2 : Vec Ideal S128x512 .bf16) (x3 : Vec Ideal S2x16384 .i8)
    (x4 : Vec Ideal S4x16384 .i32) (x5 : Vec Ideal S30x16384 .i32) (x6 : Vec Ideal S2x512 .i8) (x7 : Vec Ideal S4x512 .i32)
    (x8 : Vec Ideal S30x512 .i32) (x9 x10 : Vec Ideal S1x512 .bf16) (x11 x12 : Vec Ideal S1x510 .bf16) (x13 : Vec Ideal S1x512 .f32)
    (b : Fin 256) (o : Fin 512)

/-- The sixteen chunks of rows are the whole product with the quantized weight. -/
theorem chunks_sum : (∑ c : Fin 16, ∑ k : Fin 1024, View.ld x0 (rectX c) (ix2 b k)
      * (((nib (View.ld x1 (rectW c) (ix2 (⟨k / 2, by omega⟩ : Fin 512) o)) (k % 2) : ℝ) : EReal) * View.ld x2 (rectS (8 * c + k / 128)) (ix2 0 o)) : EReal)
    = baseSum (fun k => x0 (ix2 b k)) (fun k => x1 (ix2 k o)) (fun g => x2 (ix2 g o)) := by
  unfold baseSum
  rw [Fin.sum_univ_tiles 16 1024 rfl]
  refine Finset.sum_congr rfl fun c _ => Finset.sum_congr rfl fun k _ => ?_
  rw [ldX _ _ c.isLt, ldW _ _ c.isLt, ldS _ _ (by omega)]
  have e1 : (⟨1024 * c.val + k.val, by omega⟩ : Fin 16384) = ⟨c.val * 1024 + k.val, by omega⟩ :=
    Fin.ext (by show 1024 * c.val + k.val = c.val * 1024 + k.val; omega)
  have e2 : (⟨512 * c.val + k.val / 2, by omega⟩ : Fin 8192) = ⟨(c.val * 1024 + k.val) / 2, by omega⟩ :=
    Fin.ext (by show 512 * c.val + k.val / 2 = (c.val * 1024 + k.val) / 2; omega)
  have e3 : (⟨8 * c.val + k.val / 128, by omega⟩ : Fin 128) = ⟨(c.val * 1024 + k.val) / 128, by omega⟩ :=
    Fin.ext (by show 8 * c.val + k.val / 128 = (c.val * 1024 + k.val) / 128; omega)
  have e4 : k.val % 2 = (c.val * 1024 + k.val) % 2 := by omega
  dsimp only
  rw [e1, e2, e3, e4]

/-- The slots' products are the ranks' parts. -/
theorem slots_sum : (∑ s : Fin 512, tOf x0 x3 x4 x5 x9 x10 x11 x13 (ix2 b s)
      * entry (fun q => x8 (ix2 q o)) (fun q => x7 (ix2 q o)) (fun q => x6 (ix2 q o)) (zuOf x12 (ix2 s (⟨o % 128, by omega⟩ : Fin 128))) (rank s) : EReal)
    = ∑ r : Fin 512, rankPart (fun k => x0 (ix2 b k)) (fun k q => x5 (ix2 q k)) (fun k q => x4 (ix2 q k)) (fun k q => x3 (ix2 q k))
        (fun q => x8 (ix2 q o)) (fun q => x7 (ix2 q o)) (fun q => x6 (ix2 q o)) (fun q => x11 (ix2 0 q)) (fun q => x12 (ix2 0 q))
        (fun r => x9 (ix2 0 r) * x13 (ix2 0 r) * x10 (ix2 0 r)) r := by
  refine Eq.trans (Finset.sum_congr rfl fun s _ => ?_) (sum_slots _)
  rw [tOf_at, zuOf_at]
  rfl

/-- A grid point's tile, given the scratch of the first point. -/
theorem tile_at : (pointOut x0 x1 x2 x6 x7 x8 (tOf x0 x3 x4 x5 x9 x10 x11 x13) (zuOf x12) (ix2 b o) : EReal)
    = baseSum (fun k => x0 (ix2 b k)) (fun k => x1 (ix2 k o)) (fun g => x2 (ix2 g o))
      + ∑ r : Fin 512, rankPart (fun k => x0 (ix2 b k)) (fun k q => x5 (ix2 q k)) (fun k q => x4 (ix2 q k)) (fun k q => x3 (ix2 q k))
        (fun q => x8 (ix2 q o)) (fun q => x7 (ix2 q o)) (fun q => x6 (ix2 q o)) (fun q => x11 (ix2 0 q)) (fun q => x12 (ix2 0 q))
        (fun r => x9 (ix2 0 r) * x13 (ix2 0 r) * x10 (ix2 0 r)) r := by
  have h5 : k0_pay105 (F := Ideal) x8 = x8 := shapeCast_self _ _
  have h6 : k0_pay106 (F := Ideal) x7 = x7 := shapeCast_self _ _
  have h7 : k0_pay107 (F := Ideal) x6 = x6 := shapeCast_self _ _
  have h : pointOut x0 x1 x2 x6 x7 x8 (tOf x0 x3 x4 x5 x9 x10 x11 x13) (zuOf x12) (ix2 b o)
      = chain (mixed (tOf x0 x3 x4 x5 x9 x10 x11 x13) x8 x7 x6 (zuOf x12)) (fun n => View.ld x1 (rectW n)) (fun n => View.ld x2 (rectS n))
          (fun n => View.ld x0 (rectX n)) 16 (ix2 b o) := by
    unfold pointOut
    rw [h5, h6, h7]
    generalize chain (F := Ideal) _ _ _ _ 16 = y
    pointwise []
  refine h.trans ((chain_at _ _ _ _ b o 16).trans ?_)
  rw [mixed_at, slots_sum, add_comm]
  exact congrArg (fun y : EReal => y + _) (chunks_sum x0 x1 x2 b o)

end Tile

section Whole
variable (m : (ℓ : Loc nD τ sig) → Buf (Elt Ideal) ℓ) (c : Dev nD)

abbrev KX : FVec Ideal S2x128x16384 .bf16 := m ((c : Thread nD τ).loc main_arg0)
abbrev KS9 : FVec Ideal S512 .bf16 := m ((c : Thread nD τ).loc main_arg9)
abbrev KS10 : FVec Ideal S512 .bf16 := m ((c : Thread nD τ).loc main_arg10)
abbrev KS13 : FVec Ideal S512 .f32 := m ((c : Thread nD τ).loc main_arg13)

/-- The kernel's result at row `b`, column `o`. -/
theorem kernel_at (b : Fin 256) (o : Fin 5120) : (Value.G14 m c (ix2 b o) : EReal)
    = baseSum (fun k => KX m c (ix3 (⟨b / 128, by omega⟩ : Fin 2) (⟨b % 128, by omega⟩ : Fin 128) k))
        (fun k => m ((c : Thread nD τ).loc main_arg1) (ix2 k o)) (fun g => m ((c : Thread nD τ).loc main_arg2) (ix2 g o))
      + ∑ r : Fin 512, rankPart (fun k => KX m c (ix3 (⟨b / 128, by omega⟩ : Fin 2) (⟨b % 128, by omega⟩ : Fin 128) k))
          (fun k q => m ((c : Thread nD τ).loc main_arg7) (ix2 k q)) (fun k q => m ((c : Thread nD τ).loc main_arg5) (ix2 k q))
          (fun k q => m ((c : Thread nD τ).loc main_arg3) (ix2 k q)) (fun q => m ((c : Thread nD τ).loc main_arg8) (ix2 o q))
          (fun q => m ((c : Thread nD τ).loc main_arg6) (ix2 o q)) (fun q => m ((c : Thread nD τ).loc main_arg4) (ix2 o q))
          (fun q => m ((c : Thread nD τ).loc main_arg11) (ix1 q)) (fun q => m ((c : Thread nD τ).loc main_arg12) (ix1 q))
          (fun r => KS9 m c (ix1 r) * KS13 m c (ix1 r) * KS10 m c (ix1 r)) r := by
  have hN : o.val / 512 < cfg0.N := lt_of_lt_of_eq (by omega) N_0.symm
  have h00 : ∀ (t t' : Fin cfg0.N), iblk m c 0 t = iblk m c 0 t' := by
    intro t t'
    refine funext fun i => ?_
    obtain ⟨b, k, rfl⟩ : ∃ (b : Fin 256) (k : Fin 16384), i = ix2 b k := ⟨i 0, i 1, (ix2_eta i).symm⟩
    rw [blk0, blk0]
  have ho : (⟨512 * (o.val / 512) + o.val % 512, by omega⟩ : Fin 5120) = o := Fin.ext (Nat.div_add_mod _ _)
  rw [final_eq]
  unfold held
  dsimp only
  rw [h00 ⟨o.val / 512, hN⟩ ⟨0, Nat.lt_of_le_of_lt (Nat.zero_le _) hN⟩, tile_at]
  simp only [blk0, blk1, blk2, blk3, blk4, blk5, blk6, blk7, blk8, blk9, blk10, blk11, blk12, blk13, ho]

/-- From equal arguments, the reference's result is the kernel's. -/
theorem results_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0)
      = m ((c.tc : Thread nD τ).loc main_arg0))
    (h1 : m' ((c.tc : Thread Cert.ReferenceIdeal.nD Cert.ReferenceIdeal.τ).loc Cert.ReferenceIdeal.main_arg1)
      = m ((c.tc : Thread nD τ).loc main_arg1))
    (h2 : m' ((c.tc : Thread Cert.ReferenceIdeal.nD Cert.ReferenceIdeal.τ).loc Cert.ReferenceIdeal.main_arg2)
      = m ((c.tc : Thread nD τ).loc main_arg2))
    (h3 : m' ((c.tc : Thread Cert.ReferenceIdeal.nD Cert.ReferenceIdeal.τ).loc Cert.ReferenceIdeal.main_arg3)
      = m ((c.tc : Thread nD τ).loc main_arg3))
    (h4 : m' ((c.tc : Thread Cert.ReferenceIdeal.nD Cert.ReferenceIdeal.τ).loc Cert.ReferenceIdeal.main_arg4)
      = m ((c.tc : Thread nD τ).loc main_arg4))
    (h5 : m' ((c.tc : Thread Cert.ReferenceIdeal.nD Cert.ReferenceIdeal.τ).loc Cert.ReferenceIdeal.main_arg5)
      = m ((c.tc : Thread nD τ).loc main_arg5))
    (h6 : m' ((c.tc : Thread Cert.ReferenceIdeal.nD Cert.ReferenceIdeal.τ).loc Cert.ReferenceIdeal.main_arg6)
      = m ((c.tc : Thread nD τ).loc main_arg6))
    (h7 : m' ((c.tc : Thread Cert.ReferenceIdeal.nD Cert.ReferenceIdeal.τ).loc Cert.ReferenceIdeal.main_arg7)
      = m ((c.tc : Thread nD τ).loc main_arg7))
    (h8 : m' ((c.tc : Thread Cert.ReferenceIdeal.nD Cert.ReferenceIdeal.τ).loc Cert.ReferenceIdeal.main_arg8)
      = m ((c.tc : Thread nD τ).loc main_arg8))
    (h9 : m' ((c.tc : Thread Cert.ReferenceIdeal.nD Cert.ReferenceIdeal.τ).loc Cert.ReferenceIdeal.main_arg9)
      = m ((c.tc : Thread nD τ).loc main_arg9))
    (h10 : m' ((c.tc : Thread Cert.ReferenceIdeal.nD Cert.ReferenceIdeal.τ).loc Cert.ReferenceIdeal.main_arg10)
      = m ((c.tc : Thread nD τ).loc main_arg10))
    (h11 : m' ((c.tc : Thread Cert.ReferenceIdeal.nD Cert.ReferenceIdeal.τ).loc Cert.ReferenceIdeal.main_arg11)
      = m ((c.tc : Thread nD τ).loc main_arg11))
    (h12 : m' ((c.tc : Thread Cert.ReferenceIdeal.nD Cert.ReferenceIdeal.τ).loc Cert.ReferenceIdeal.main_arg12)
      = m ((c.tc : Thread nD τ).loc main_arg12))
    (h13 : m' ((c.tc : Thread Cert.ReferenceIdeal.nD Cert.ReferenceIdeal.τ).loc Cert.ReferenceIdeal.main_arg13)
      = m ((c.tc : Thread nD τ).loc main_arg13)) :
    Cert.ReferenceIdeal.Value.res_main_v145 m' c = Value.G14 m c := by
  refine funext fun i => ?_
  obtain ⟨b, o, rfl⟩ : ∃ (b : Fin 256) (o : Fin 5120), i = ix2 b o := ⟨i 0, i 1, (ix2_eta i).symm⟩
  have hc : ∀ r : Fin 512, Ref.CF m' c (ix1 r) = KS9 m c (ix1 r) * KS13 m c (ix1 r) * KS10 m c (ix1 r) := by
    intro r
    show Ref.coef _ _ _ (ix1 r) = _
    rw [h9, h10, h13]
    unfold Ref.coef
    pointwise []
  refine (Ref.res_at m' c b o).trans (Eq.trans ?_ (kernel_at m c b o).symm)
  unfold Ref.part
  simp only [hc]
  unfold Ref.X Ref.W Ref.SC
  rw [h0, h1, h2, h3, h4, h5, h6, h7, h8, h11, h12]

end Whole

end Cert.Delta

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation

@[expose] public section

noncomputable section

namespace Cert.Proof

open Idealize.ShloMosaic Idealize.SL.Sem

/-- The kernel and the reference both run, and from equal arguments their results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G14 (F := Ideal) m c, Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨hv, hr⟩ := h c
  refine ⟨hv.trans ?_, hr⟩
  obtain ⟨h0, h1, h2, h3, h4, h5, h6, h7, h8, h9, h10, h11, h12, h13⟩ := hargs c
  exact Cert.Delta.results_eq m c m' h0 h1 h2 h3 h4 h5 h6 h7 h8 h9 h10 h11 h12 h13

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g,
    fun m g _ => (θ_run (Cert.ReferenceIdeal.defs) _ _).mono (fun r h => ⟨fun c => (h c).2, sem_eq_zero_of_no_sems (by decide) _⟩) (Cert.ReferenceIdeal.Value.run m g),
    trivial, algebraic⟩

end Cert.Proof

end
